-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range_unbiased [hPre_in_range_unbiased : Cert.Pre_in_range_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_unbiased [hPre_in_range_unbiased : Cert.Pre_in_range_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range_unbiased [hKernelIdeal : Cert.KernelIdeal.Facts] [hPre_in_range_unbiased : Cert.Pre_in_range_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_unbiased m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range_unbiased [hReferenceIdeal : Cert.ReferenceIdeal.Facts] [hPre_in_range_unbiased : Cert.Pre_in_range_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range_unbiased [hKernelIdeal : Cert.KernelIdeal.Facts] [hReferenceIdeal : Cert.ReferenceIdeal.Facts] [hPre_in_range_unbiased : Cert.Pre_in_range_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_cst_0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_unbiased : Cert.Pre_in_range_unbiased.Facts),
    quiescent_Kernel (hKernel := hKernel) (hPre_in_range := hPre_in_range)
    ∧ quiescent_KernelIdeal (hKernelIdeal := hKernelIdeal) (hPre_in_range := hPre_in_range)
    ∧ quiescent_KernelIdeal_pre_in_range_unbiased (hKernelIdeal := hKernelIdeal) (hPre_in_range_unbiased := hPre_in_range_unbiased)
    ∧ quiescent_ReferenceIdeal (hReferenceIdeal := hReferenceIdeal)
    ∧ quiescent_ReferenceIdeal_pre_in_range_unbiased (hReferenceIdeal := hReferenceIdeal) (hPre_in_range_unbiased := hPre_in_range_unbiased)
    ∧ preserves_Kernel_KernelIdeal
    ∧ algebraic_KernelIdeal_ReferenceIdeal_pre_in_range_unbiased (hKernelIdeal := hKernelIdeal) (hReferenceIdeal := hReferenceIdeal) (hPre_in_range_unbiased := hPre_in_range_unbiased)
-- ==== Pre_in_range.lean ====
abbrev S16384 : Shape := ⟨1, ![16384]⟩
abbrev S1000000x16 : Shape := ⟨2, ![1000000, 16]⟩
abbrev S1000000x1 : Shape := ⟨2, ![1000000, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x16 .f32) (main_arg3 : FVec F S1000000x16 .f32) (main_arg4 : FVec F S1000000x1 .f32) (main_arg5 : FVec F S1000000x1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Pre_in_range_unbiased.lean ====
abbrev S16384 : Shape := ⟨1, ![16384]⟩
abbrev S1000000x16 : Shape := ⟨2, ![1000000, 16]⟩
abbrev S1000000x1 : Shape := ⟨2, ![1000000, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S1000000x1 : S_.BroadcastsInDim S1000000x1 (![] : Fin 0 → Fin S1000000x1.rank)
  reducesTo_S1000000x1_S_d0_1 : S1000000x1.ReducesTo [0, 1] S_

variable [Facts]

def fn_part1 {F : FTy → Type} [FloatOps F] (main_arg5 : FVec F S1000000x1 .f32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S1000000x1 .f32 := broadcastInDim S1000000x1 ![] bcast_S_S1000000x1 main_cst_6
  let main_v18 : IVec S1000000x1 1 := cmpf .oeq main_arg5 main_v17
  let main_c_7 : IVec S_ 1 := constantI S_ 1 1#1
  let main_v19 : IVec S_ 1 := (fun x v => Host.reduce IntOp.andi x v reducesTo_S1000000x1_S_d0_1 h_S_) main_v18 main_c_7
  let main_v20 : IVec S_ 1 := andi main_v16 main_v19
  main_v20

def fn {F : FTy → Type} [FloatOps F] (main_arg0 : IVec S16384 32) (main_arg1 : IVec S16384 32) (main_arg2 : FVec F S1000000x16 .f32) (main_arg3 : FVec F S1000000x16 .f32) (main_arg4 : FVec F S1000000x1 .f32) (main_arg5 : FVec F S1000000x1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_cst : FVec F S_ .f32 := constant S_ .f32 0x00000000#32
  let main_v13 : FVec F S1000000x1 .f32 := broadcastInDim S1000000x1 ![] bcast_S_S1000000x1 main_cst
  let main_v14 : IVec S1000000x1 1 := cmpf .oeq main_arg4 main_v13
  let main_c_5 : IVec S_ 1 := constantI S_ 1 1#1
  let main_v15 : IVec S_ 1 := (fun x v => Host.reduce IntOp.andi x v reducesTo_S1000000x1_S_d0_1 h_S_) main_v14 main_c_5
  fn_part1 (F := F) main_arg5 main_v12 main_v15
-- ==== Kernel.lean ====
abbrev S16384 : Shape := ⟨1, ![16384]⟩
abbrev S1000000x16 : Shape := ⟨2, ![1000000, 16]⟩
abbrev S1000000x1 : Shape := ⟨2, ![1000000, 1]⟩
abbrev S32x4x128 : Shape := ⟨3, ![32, 4, 128]⟩
abbrev S4x128 : Shape := ⟨2, ![4, 128]⟩
abbrev S512x16 : Shape := ⟨2, ![512, 16]⟩
abbrev S512 : Shape := ⟨1, ![512]⟩
abbrev S_ : Shape := ⟨0, ![]⟩
abbrev S1x4x128 : Shape := ⟨3, ![1, 4, 128]⟩
abbrev S128x16 : Shape := ⟨2, ![128, 16]⟩
abbrev S1x128 : Shape := ⟨2, ![1, 128]⟩
abbrev S128 : Shape := ⟨1, ![128]⟩
abbrev S16 : Shape := ⟨1, ![16]⟩

abbrev nBuf : Table → Nat
  | .hbm => 10
  | .local .scVector .vmem => 5
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S1000000x1, .f32⟩
  | .hbm, ⟨5, _⟩ => ⟨S1000000x1, .f32⟩
  | .hbm, ⟨6, _⟩ => ⟨S32x4x128, .i32⟩
  | .hbm, ⟨7, _⟩ => ⟨S32x4x128, .i32⟩
  | .hbm, ⟨8, _⟩ => ⟨S16384, .f32⟩
  | .hbm, ⟨9, _⟩ => ⟨S_, .f32⟩
  | .local .scVector .vmem, ⟨0, _⟩ => ⟨S4x128, .i32⟩
  | .local .scVector .vmem, ⟨1, _⟩ => ⟨S4x128, .i32⟩
  | .local .scVector .vmem, ⟨2, _⟩ => ⟨S512x16, .f32⟩
  | .local .scVector .vmem, ⟨3, _⟩ => ⟨S512x16, .f32⟩
  | .local .scVector .vmem, ⟨4, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v0_scv : Ref sig .scVector := ⟨.hbm, 6, rfl⟩
abbrev main_v1_scv : Ref sig .scVector := ⟨.hbm, 7, rfl⟩
abbrev main_arg2_scv : Ref sig .scVector := ⟨.hbm, 2, rfl⟩
abbrev main_arg3_scv : Ref sig .scVector := ⟨.hbm, 3, rfl⟩
abbrev main_v2_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_93_r0 : BitVec 32 := 0#32
  let c0_i32_94_r0 : BitVec 32 := 0#32
  ![v1.toNat, 0, 0]
@[reducible] def k0_t1_loop : Scf.Loop 32 :=
  let c0_i32_90 : BitVec 32 := 0#32
  let c32_i32 : BitVec 32 := 32#32
  let v68 : BitVec 32 := Scalar.addi c0_i32_90 c32_i32
  let c1_i32_91 : BitVec 32 := 1#32
  ⟨c0_i32_90, v68, c1_i32_91⟩

def k0_chk1 (v71 : IVec S16 32) (v73 : IVec S16 32) : Prop :=
  (∀ a x, ((![v71, v73] : Fin 2 → IVec S16 32) a x).toNat < S512x16.size a) ∧
  (∀ a x, ((![v71, v73] : Fin 2 → IVec S16 32) a x).toNat < S512x16.size a)
theorem k0_idx1_inb : ∀ (v71 : IVec S16 32) (v73 : IVec S16 32) (k0_hw1 : k0_chk1 v71 v73), ∀ a x, ((![v71, v73] : Fin 2 → IVec S16 32) a x).toNat < S512x16.size a := fun v71 v73 k0_hw1 => k0_hw1.1
theorem k0_idx2_inb : ∀ (v71 : IVec S16 32) (v73 : IVec S16 32) (k0_hw1 : k0_chk1 v71 v73), ∀ a x, ((![v71, v73] : Fin 2 → IVec S16 32) a x).toNat < S512x16.size a := fun v71 v73 k0_hw1 => k0_hw1.2

def k0_chk2 (v71 : IVec S16 32) (v78 : IVec S16 32) : Prop :=
  (∀ a x, ((![v71, v78] : Fin 2 → IVec S16 32) a x).toNat < S512x16.size a) ∧
  (∀ a x, ((![v71, v78] : Fin 2 → IVec S16 32) a x).toNat < S512x16.size a)
theorem k0_idx3_inb : ∀ (v71 : IVec S16 32) (v78 : IVec S16 32) (k0_hw2 : k0_chk2 v71 v78), ∀ a x, ((![v71, v78] : Fin 2 → IVec S16 32) a x).toNat < S512x16.size a := fun v71 v78 k0_hw2 => k0_hw2.1
theorem k0_idx4_inb : ∀ (v71 : IVec S16 32) (v78 : IVec S16 32) (k0_hw2 : k0_chk2 v71 v78), ∀ a x, ((![v71, v78] : Fin 2 → IVec S16 32) a x).toNat < S512x16.size a := fun v71 v78 k0_hw2 => k0_hw2.2

def k0_chk3 (v71 : IVec S16 32) (v83 : IVec S16 32) : Prop :=
  (∀ a x, ((![v71, v83] : Fin 2 → IVec S16 32) a x).toNat < S512x16.size a) ∧
  (∀ a x, ((![v71, v83] : Fin 2 → IVec S16 32) a x).toNat < S512x16.size a)
theorem k0_idx5_inb : ∀ (v71 : IVec S16 32) (v83 : IVec S16 32) (k0_hw3 : k0_chk3 v71 v83), ∀ a x, ((![v71, v83] : Fin 2 → IVec S16 32) a x).toNat < S512x16.size a := fun v71 v83 k0_hw3 => k0_hw3.1
theorem k0_idx6_inb : ∀ (v71 : IVec S16 32) (v83 : IVec S16 32) (k0_hw3 : k0_chk3 v71 v83), ∀ a x, ((![v71, v83] : Fin 2 → IVec S16 32) a x).toNat < S512x16.size a := fun v71 v83 k0_hw3 => k0_hw3.2

def k0_chk4 (v71 : IVec S16 32) (v88 : IVec S16 32) : Prop :=
  (∀ a x, ((![v71, v88] : Fin 2 → IVec S16 32) a x).toNat < S512x16.size a) ∧
  (∀ a x, ((![v71, v88] : Fin 2 → IVec S16 32) a x).toNat < S512x16.size a)
theorem k0_idx7_inb : ∀ (v71 : IVec S16 32) (v88 : IVec S16 32) (k0_hw4 : k0_chk4 v71 v88), ∀ a x, ((![v71, v88] : Fin 2 → IVec S16 32) a x).toNat < S512x16.size a := fun v71 v88 k0_hw4 => k0_hw4.1
theorem k0_idx8_inb : ∀ (v71 : IVec S16 32) (v88 : IVec S16 32) (k0_hw4 : k0_chk4 v71 v88), ∀ a x, ((![v71, v88] : Fin 2 → IVec S16 32) a x).toNat < S512x16.size a := fun v71 v88 k0_hw4 => k0_hw4.2

def k0_chk5 (v71 : IVec S16 32) (v93 : IVec S16 32) : Prop :=
  (∀ a x, ((![v71, v93] : Fin 2 → IVec S16 32) a x).toNat < S512x16.size a) ∧
  (∀ a x, ((![v71, v93] : Fin 2 → IVec S16 32) a x).toNat < S512x16.size a)
theorem k0_idx9_inb : ∀ (v71 : IVec S16 32) (v93 : IVec S16 32) (k0_hw5 : k0_chk5 v71 v93), ∀ a x, ((![v71, v93] : Fin 2 → IVec S16 32) a x).toNat < S512x16.size a := fun v71 v93 k0_hw5 => k0_hw5.1
theorem k0_idx10_inb : ∀ (v71 : IVec S16 32) (v93 : IVec S16 32) (k0_hw5 : k0_chk5 v71 v93), ∀ a x, ((![v71, v93] : Fin 2 → IVec S16 32) a x).toNat < S512x16.size a := fun v71 v93 k0_hw5 => k0_hw5.2

def k0_chk6 (v71 : IVec S16 32) (v98 : IVec S16 32) : Prop :=
  (∀ a x, ((![v71, v98] : Fin 2 → IVec S16 32) a x).toNat < S512x16.size a) ∧
  (∀ a x, ((![v71, v98] : Fin 2 → IVec S16 32) a x).toNat < S512x16.size a)
theorem k0_idx11_inb : ∀ (v71 : IVec S16 32) (v98 : IVec S16 32) (k0_hw6 : k0_chk6 v71 v98), ∀ a x, ((![v71, v98] : Fin 2 → IVec S16 32) a x).toNat < S512x16.size a := fun v71 v98 k0_hw6 => k0_hw6.1
theorem k0_idx12_inb : ∀ (v71 : IVec S16 32) (v98 : IVec S16 32) (k0_hw6 : k0_chk6 v71 v98), ∀ a x, ((![v71, v98] : Fin 2 → IVec S16 32) a x).toNat < S512x16.size a := fun v71 v98 k0_hw6 => k0_hw6.2

def k0_chk7 (v71 : IVec S16 32) (v103 : IVec S16 32) : Prop :=
  (∀ a x, ((![v71, v103] : Fin 2 → IVec S16 32) a x).toNat < S512x16.size a) ∧
  (∀ a x, ((![v71, v103] : Fin 2 → IVec S16 32) a x).toNat < S512x16.size a)
theorem k0_idx13_inb : ∀ (v71 : IVec S16 32) (v103 : IVec S16 32) (k0_hw7 : k0_chk7 v71 v103), ∀ a x, ((![v71, v103] : Fin 2 → IVec S16 32) a x).toNat < S512x16.size a := fun v71 v103 k0_hw7 => k0_hw7.1
theorem k0_idx14_inb : ∀ (v71 : IVec S16 32) (v103 : IVec S16 32) (k0_hw7 : k0_chk7 v71 v103), ∀ a x, ((![v71, v103] : Fin 2 → IVec S16 32) a x).toNat < S512x16.size a := fun v71 v103 k0_hw7 => k0_hw7.2

def k0_chk8 (v71 : IVec S16 32) (v108 : IVec S16 32) : Prop :=
  (∀ a x, ((![v71, v108] : Fin 2 → IVec S16 32) a x).toNat < S512x16.size a) ∧
  (∀ a x, ((![v71, v108] : Fin 2 → IVec S16 32) a x).toNat < S512x16.size a)
theorem k0_idx15_inb : ∀ (v71 : IVec S16 32) (v108 : IVec S16 32) (k0_hw8 : k0_chk8 v71 v108), ∀ a x, ((![v71, v108] : Fin 2 → IVec S16 32) a x).toNat < S512x16.size a := fun v71 v108 k0_hw8 => k0_hw8.1
theorem k0_idx16_inb : ∀ (v71 : IVec S16 32) (v108 : IVec S16 32) (k0_hw8 : k0_chk8 v71 v108), ∀ a x, ((![v71, v108] : Fin 2 → IVec S16 32) a x).toNat < S512x16.size a := fun v71 v108 k0_hw8 => k0_hw8.2

def k0_chk9 (v71 : IVec S16 32) (v113 : IVec S16 32) : Prop :=
  (∀ a x, ((![v71, v113] : Fin 2 → IVec S16 32) a x).toNat < S512x16.size a) ∧
  (∀ a x, ((![v71, v113] : Fin 2 → IVec S16 32) a x).toNat < S512x16.size a)
theorem k0_idx17_inb : ∀ (v71 : IVec S16 32) (v113 : IVec S16 32) (k0_hw9 : k0_chk9 v71 v113), ∀ a x, ((![v71, v113] : Fin 2 → IVec S16 32) a x).toNat < S512x16.size a := fun v71 v113 k0_hw9 => k0_hw9.1
theorem k0_idx18_inb : ∀ (v71 : IVec S16 32) (v113 : IVec S16 32) (k0_hw9 : k0_chk9 v71 v113), ∀ a x, ((![v71, v113] : Fin 2 → IVec S16 32) a x).toNat < S512x16.size a := fun v71 v113 k0_hw9 => k0_hw9.2

def k0_chk10 (v71 : IVec S16 32) (v118 : IVec S16 32) : Prop :=
  (∀ a x, ((![v71, v118] : Fin 2 → IVec S16 32) a x).toNat < S512x16.size a) ∧
  (∀ a x, ((![v71, v118] : Fin 2 → IVec S16 32) a x).toNat < S512x16.size a)
theorem k0_idx19_inb : ∀ (v71 : IVec S16 32) (v118 : IVec S16 32) (k0_hw10 : k0_chk10 v71 v118), ∀ a x, ((![v71, v118] : Fin 2 → IVec S16 32) a x).toNat < S512x16.size a := fun v71 v118 k0_hw10 => k0_hw10.1
theorem k0_idx20_inb : ∀ (v71 : IVec S16 32) (v118 : IVec S16 32) (k0_hw10 : k0_chk10 v71 v118), ∀ a x, ((![v71, v118] : Fin 2 → IVec S16 32) a x).toNat < S512x16.size a := fun v71 v118 k0_hw10 => k0_hw10.2

def k0_chk11 (v71 : IVec S16 32) (v123 : IVec S16 32) : Prop :=
  (∀ a x, ((![v71, v123] : Fin 2 → IVec S16 32) a x).toNat < S512x16.size a) ∧
  (∀ a x, ((![v71, v123] : Fin 2 → IVec S16 32) a x).toNat < S512x16.size a)
theorem k0_idx21_inb : ∀ (v71 : IVec S16 32) (v123 : IVec S16 32) (k0_hw11 : k0_chk11 v71 v123), ∀ a x, ((![v71, v123] : Fin 2 → IVec S16 32) a x).toNat < S512x16.size a := fun v71 v123 k0_hw11 => k0_hw11.1
theorem k0_idx22_inb : ∀ (v71 : IVec S16 32) (v123 : IVec S16 32) (k0_hw11 : k0_chk11 v71 v123), ∀ a x, ((![v71, v123] : Fin 2 → IVec S16 32) a x).toNat < S512x16.size a := fun v71 v123 k0_hw11 => k0_hw11.2

def k0_chk12 (v71 : IVec S16 32) (v128 : IVec S16 32) : Prop :=
  (∀ a x, ((![v71, v128] : Fin 2 → IVec S16 32) a x).toNat < S512x16.size a) ∧
  (∀ a x, ((![v71, v128] : Fin 2 → IVec S16 32) a x).toNat < S512x16.size a)
theorem k0_idx23_inb : ∀ (v71 : IVec S16 32) (v128 : IVec S16 32) (k0_hw12 : k0_chk12 v71 v128), ∀ a x, ((![v71, v128] : Fin 2 → IVec S16 32) a x).toNat < S512x16.size a := fun v71 v128 k0_hw12 => k0_hw12.1
theorem k0_idx24_inb : ∀ (v71 : IVec S16 32) (v128 : IVec S16 32) (k0_hw12 : k0_chk12 v71 v128), ∀ a x, ((![v71, v128] : Fin 2 → IVec S16 32) a x).toNat < S512x16.size a := fun v71 v128 k0_hw12 => k0_hw12.2

def k0_chk13 (v71 : IVec S16 32) (v133 : IVec S16 32) : Prop :=
  (∀ a x, ((![v71, v133] : Fin 2 → IVec S16 32) a x).toNat < S512x16.size a) ∧
  (∀ a x, ((![v71, v133] : Fin 2 → IVec S16 32) a x).toNat < S512x16.size a)
theorem k0_idx25_inb : ∀ (v71 : IVec S16 32) (v133 : IVec S16 32) (k0_hw13 : k0_chk13 v71 v133), ∀ a x, ((![v71, v133] : Fin 2 → IVec S16 32) a x).toNat < S512x16.size a := fun v71 v133 k0_hw13 => k0_hw13.1
theorem k0_idx26_inb : ∀ (v71 : IVec S16 32) (v133 : IVec S16 32) (k0_hw13 : k0_chk13 v71 v133), ∀ a x, ((![v71, v133] : Fin 2 → IVec S16 32) a x).toNat < S512x16.size a := fun v71 v133 k0_hw13 => k0_hw13.2

def k0_chk14 (v71 : IVec S16 32) (v138 : IVec S16 32) : Prop :=
  (∀ a x, ((![v71, v138] : Fin 2 → IVec S16 32) a x).toNat < S512x16.size a) ∧
  (∀ a x, ((![v71, v138] : Fin 2 → IVec S16 32) a x).toNat < S512x16.size a)
theorem k0_idx27_inb : ∀ (v71 : IVec S16 32) (v138 : IVec S16 32) (k0_hw14 : k0_chk14 v71 v138), ∀ a x, ((![v71, v138] : Fin 2 → IVec S16 32) a x).toNat < S512x16.size a := fun v71 v138 k0_hw14 => k0_hw14.1
theorem k0_idx28_inb : ∀ (v71 : IVec S16 32) (v138 : IVec S16 32) (k0_hw14 : k0_chk14 v71 v138), ∀ a x, ((![v71, v138] : Fin 2 → IVec S16 32) a x).toNat < S512x16.size a := fun v71 v138 k0_hw14 => k0_hw14.2

def k0_chk15 (v71 : IVec S16 32) (v143 : IVec S16 32) : Prop :=
  (∀ a x, ((![v71, v143] : Fin 2 → IVec S16 32) a x).toNat < S512x16.size a) ∧
  (∀ a x, ((![v71, v143] : Fin 2 → IVec S16 32) a x).toNat < S512x16.size a)
theorem k0_idx29_inb : ∀ (v71 : IVec S16 32) (v143 : IVec S16 32) (k0_hw15 : k0_chk15 v71 v143), ∀ a x, ((![v71, v143] : Fin 2 → IVec S16 32) a x).toNat < S512x16.size a := fun v71 v143 k0_hw15 => k0_hw15.1
theorem k0_idx30_inb : ∀ (v71 : IVec S16 32) (v143 : IVec S16 32) (k0_hw15 : k0_chk15 v71 v143), ∀ a x, ((![v71, v143] : Fin 2 → IVec S16 32) a x).toNat < S512x16.size a := fun v71 v143 k0_hw15 => k0_hw15.2

def k0_chk16 (v71 : IVec S16 32) (v148 : IVec S16 32) : Prop :=
  (∀ a x, ((![v71, v148] : Fin 2 → IVec S16 32) a x).toNat < S512x16.size a) ∧
  (∀ a x, ((![v71, v148] : Fin 2 → IVec S16 32) a x).toNat < S512x16.size a)
theorem k0_idx31_inb : ∀ (v71 : IVec S16 32) (v148 : IVec S16 32) (k0_hw16 : k0_chk16 v71 v148), ∀ a x, ((![v71, v148] : Fin 2 → IVec S16 32) a x).toNat < S512x16.size a := fun v71 v148 k0_hw16 => k0_hw16.1
theorem k0_idx32_inb : ∀ (v71 : IVec S16 32) (v148 : IVec S16 32) (k0_hw16 : k0_chk16 v71 v148), ∀ a x, ((![v71, v148] : Fin 2 → IVec S16 32) a x).toNat < S512x16.size a := fun v71 v148 k0_hw16 => k0_hw16.2
def k0_off2 (k0_t1 : Fin k0_t1_loop.trips) : Fin 1 → Nat :=
  let c0_i32_90 : BitVec 32 := 0#32
  let c1_i32_91 : BitVec 32 := 1#32
  let arg13 : BitVec 32 := Scf.iv c0_i32_90 c1_i32_91 k0_t1
  let c16_i32_97 : BitVec 32 := 16#32
  let v153 : BitVec 32 := Scalar.muli arg13 c16_i32_97
  let v154 : Index := Scalar.indexCast v153
  ![v154.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16 : Shape := ⟨2, ![1000000, 16]⟩
abbrev S1000000x1 : Shape := ⟨2, ![1000000, 1]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 106
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S1000000x1, .f32⟩
  | .hbm, ⟨5, _⟩ => ⟨S1000000x1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x16, .f32⟩
  | .hbm, ⟨25, _⟩ => ⟨S16384x16, .i1⟩
  | .hbm, ⟨26, _⟩ => ⟨S_, .f32⟩
  | .hbm, ⟨27, _⟩ => ⟨S16384x16, .f32⟩
  | .hbm, ⟨28, _⟩ => ⟨S16384x16, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x16, .f32⟩
  | .hbm, ⟨48, _⟩ => ⟨S16384x16, .i1⟩
  | .hbm, ⟨49, _⟩ => ⟨S_, .f32⟩
  | .hbm, ⟨50, _⟩ => ⟨S16384x16, .f32⟩
  | .hbm, ⟨51, _⟩ => ⟨S16384x16, .f32⟩
  | .hbm, ⟨52, _⟩ => ⟨S16384x16, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384x1, .f32⟩
  | .hbm, ⟨75, _⟩ => ⟨S16384x1, .i1⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S1, .i32⟩
  | .hbm, ⟨89, _⟩ => ⟨S_, .i32⟩
  | .hbm, ⟨90, _⟩ => ⟨S16384x1, .i32⟩
  | .hbm, ⟨91, _⟩ => ⟨S16384x1, .i1⟩
  | .hbm, ⟨92, _⟩ => ⟨S1x1, .i32⟩
  | .hbm, ⟨93, _⟩ => ⟨S16384x1, .i32⟩
  | .hbm, ⟨94, _⟩ => ⟨S16384x1, .i1⟩
  | .hbm, ⟨95, _⟩ => ⟨S16384x1, .i1⟩
  | .hbm, ⟨96, _⟩ => ⟨S_, .i1⟩
  | .hbm, ⟨97, _⟩ => ⟨S16384, .i1⟩
  | .hbm, ⟨98, _⟩ => ⟨S16384x1, .f32⟩
  | .hbm, ⟨99, _⟩ => ⟨S16384x1, .i1⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x1, .f32⟩
  | .hbm, ⟨104, _⟩ => ⟨S16384, .f32⟩
  | .hbm, ⟨105, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_cst : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_v6 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_cst_0 : Ref sig .tc := ⟨.hbm, 105, rfl⟩

abbrev nD : Nat := 1
abbrev τ : Topo := Topo.v7x

variable {F : FTy → Type} [FloatOps F]
-- ==== Proof.RowBatch.lean ====
/-
  Several indirect row gathers outstanding on ONE DMA semaphore.

  A tile that issues gather after gather on one semaphore before it waits for any of them has, on that semaphore's
  counter, one big batch of row transfers: gather `b` of `o` rows contributes the transfers `b·o, …, b·o + o - 1`. Each
  row's transfer credits the same number of units, so the library's counted batch (`Transfers.Batch`) describes them
  all at once. This module states what one row brings when it lands (`rowLanded`), that all the rows of a gather
  together are the gather's destination written (`rowLanded_all`), and the rule that issues one gather into a batch
  (`wp_gatherIntoBatch`). The waits are the library's.
-/
module

public import Idealize.ShloMosaic.Lib.Batch
public import Idealize.ShloMosaic.Lib.SparseCore.Stream

@[expose] public section

noncomputable section

namespace Cert.Proof.RowBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending batchBody batch_creditUpdate)

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-! ## Consecutive issue rights -/

section Rights

variable {n : ℕ}

/-- The transfers `b, …, b + o - 1` of a batch, as an embedding of `Fin o`. -/
def nextAt (b o : ℕ) (h : b + o ≤ n) : Fin o ↪ Fin n where
  toFun j := ⟨b + j.val, by omega⟩
  inj' := fun i j e => Fin.ext (by have := congrArg Fin.val e; simp only at this; omega)

theorem nextAt_val (b o : ℕ) (h : b + o ≤ n) (j : Fin o) : (nextAt b o h j).val = b + j.val := rfl

/-- The rights from transfer `b` on are those of the next `o` transfers and those from `b + o` on. -/
theorem bigSep_pending_next (Φ : Fin n → sProp 𝕄) (b o : ℕ) (h : b + o ≤ n) :
    bigSep (pending b) Φ = iprop(bigSep Finset.univ (fun j : Fin o => Φ (nextAt b o h j)) ∗ bigSep (pending (b + o)) Φ) := by
  have hd : Disjoint (Finset.univ.map (nextAt b o h)) (pending (n := n) (b + o)) := by
    refine Finset.disjoint_left.mpr fun t ht ht' => ?_
    obtain ⟨j, -, rfl⟩ := Finset.mem_map.mp ht
    have h1 : b + o ≤ (nextAt b o h j).val := (Finset.mem_filter.mp ht').2
    rw [nextAt_val] at h1; omega
  have hu : pending (n := n) b = Finset.univ.map (nextAt b o h) ∪ pending (b + o) := by
    ext t
    simp only [pending, Finset.mem_filter, Finset.mem_univ, true_and, Finset.mem_union, Finset.mem_map]
    constructor
    · intro hb
      by_cases hbo : b + o ≤ t.val
      · exact .inr hbo
      · exact .inl ⟨⟨t.val - b, by omega⟩, Fin.ext (by rw [nextAt_val]; simp only; omega)⟩
    · rintro (⟨j, rfl⟩ | hb)
      · rw [nextAt_val]; omega
      · omega
  rw [hu, BI.bigSep_union hd, BI.bigSep_map]; rfl

end Rights

/-! ## One family of deliveries per gather, laid end to end -/

section Flat

variable {m o : ℕ}

/-- The deliveries of `m` gathers of `o` rows each as one family: transfer `t` is row `t % o` of gather `t / o`. -/
def flat (G : Fin m → Fin o → sProp 𝕄) (t : Fin (m * o)) : sProp 𝕄 := G (finProdFinEquiv.symm t).1 (finProdFinEquiv.symm t).2

/-- Transfer `b·o + j` is row `j` of gather `b`. -/
theorem flat_nextAt (G : Fin m → Fin o → sProp 𝕄) (b : Fin m) (h : b.val * o + o ≤ m * o) (j : Fin o) :
    flat G (nextAt (b.val * o) o h j) = G b j := by
  have e : nextAt (b.val * o) o h j = finProdFinEquiv (b, j) := Fin.ext (by
    rw [nextAt_val]; change b.val * o + j.val = j.val + o * b.val; rw [Nat.mul_comm, Nat.add_comm])
  unfold flat; rw [e, Equiv.symm_apply_apply]

/-- All the deliveries together are each gather's deliveries together. -/
theorem bigSep_flat (G : Fin m → Fin o → sProp 𝕄) :
    bigSep Finset.univ (flat G) = bigSep Finset.univ fun b => bigSep Finset.univ (G b) := by
  rw [BI.bigSep_univ_equiv (finProdFinEquiv (m := m) (n := o)), BI.bigSep_univ_prod]
  refine BI.bigSep_congr fun b _ => BI.bigSep_congr fun j _ => ?_
  unfold flat; rw [Equiv.symm_apply_apply]

instance flat_storable (G : Fin m → Fin o → sProp 𝕄) [∀ b j, Storable (upEmb : UEmb _ 𝕄) (G b j)] (t : Fin (m * o)) :
    Storable (upEmb : UEmb _ 𝕄) (flat G t) := by unfold flat; infer_instance

end Flat

/-! ## What one row brings -/

section Row

variable (c : Thread nD τ) {sp : Space} {s₀ s si : Shape} {e : EltTy} {a : Nat}

/-- Row `j` of a gather, landed: the destination's row written with the source row `r j`, the list entry's share and
    the row's piece of the source's share back. -/
def rowLanded (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) : sProp 𝕄 :=
  iprop(((dst.view.loc c ↦[(dst.view.slice (s.rowRect hg.axis' j)).set]{fullShare}
        ((dst.view.slice (s.rowRect hg.axis' j)).write (Elt F) fd (fun i => src.view.read (Elt F) fs (hg.rowIdx (r j) i)) Finset.univ))
      ∗ (offs.view.loc c ↦[{offs.view.emb (si.rowMajor.symm (j.cast hn.symm))}]{qo} fo))
    ∗ (src.view.loc c ↦[src.view.set]{pieceOf q _ ho j} fs))

instance rowLanded_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) :
    Storable (upEmb : UEmb _ 𝕄) (rowLanded (Ix := Ix) (Name := Name) (U := U) (Lvl := Lvl) c src dst hg offs hn q qo fs fd fo r ho j) := by
  unfold rowLanded; infer_instance

/-- The list's entries are numbered without repetition or omission. -/
theorem entry_bijective {o : ℕ} (hn : si.numel = o) : Function.Bijective fun j : Fin o => si.rowMajor.symm (j.cast hn.symm) :=
  si.rowMajor.symm.bijective.comp (finCongr hn.symm).bijective

/-- Every row of a gather landed: the destination holds the gathered rows, and the source's and the list's shares are
    whole again. -/
theorem rowLanded_all {src : Memref sig c.2.kind sp s₀ e} {dst : Memref sig c.2.kind .vmem s e} {hg : s₀.Gathers a s}
    {offs : Memref sig c.2.kind .vmem si .i32} {hn : si.numel = s.size hg.axis'} {q qo : PosShare TreeShare}
    {fs : Buf (Elt F) (src.view.loc c)} {fd : Buf (Elt F) (dst.view.loc c)} {fo : Buf (Elt F) (offs.view.loc c)}
    {r : Fin (s.size hg.axis') → Fin (s₀.size hg.axis)} {ho : 0 < s.size hg.axis'} :
    bigSep Finset.univ (rowLanded c src dst hg offs hn q qo fs fd fo r ho)
      ⊢ (iprop((dst.view.loc c ↦[dst.view.set]{fullShare} (dst.view.write (Elt F) fd (gatherPayload hg (src.view.read (Elt F) fs) r) Finset.univ))
          ∗ (offs.view.loc c ↦[offs.view.set]{qo} fo) ∗ (src.view.loc c ↦[src.view.set]{q} fs)) : sProp 𝕄) := by
  unfold rowLanded
  iintro H
  ihave H1 := Transfers.bigSep_sep_out _ _ _ $$ H
  icases H1 with ⟨H2, Hsrc⟩
  ihave H3 := Transfers.bigSep_sep_out _ _ _ $$ H2
  icases H3 with ⟨Hrows, Hlist⟩
  isplitl [Hrows]
  · have hrows := pointsTo_rows_write (Ix := Ix) (Name := Name) (U := U) (Lvl := Lvl) c dst.view hg.axis' fd
      (fun j i => src.view.read (Elt F) fs (hg.rowIdx (r j) i)) (gatherPayload hg (src.view.read (Elt F) fs) r)
      fun j i => by unfold gatherPayload; rw [Shape.Gathers.idx_rowRect_emb]
    iapply hrows; iexact Hrows
  isplitl [Hlist]
  · iapply (Entails.of_eq (pointsTo_entries c offs.view _ (entry_bijective hn) qo fo).symm) $$ Hlist
  · iapply (Entails.of_eq (pointsTo_piecesOf src.view.set fs ho q).symm) $$ Hsrc

end Row

/-! ## The issue -/

section Issue

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Three families over one index set, taken member by member. -/
theorem bigSep_zip {o : ℕ} (A B C : Fin o → sProp 𝕄) :
    iprop(bigSep Finset.univ A ∗ bigSep Finset.univ B ∗ bigSep Finset.univ C) = bigSep Finset.univ fun j => iprop(A j ∗ B j ∗ C j) :=
  ((BI.bigSep_sep _ A _).trans (congrArg (fun X : sProp 𝕄 => iprop(bigSep Finset.univ A ∗ X)) (BI.bigSep_sep _ B C))).symm

variable {src : Memref sig c.2.kind sp s₀ e} {dst : Memref sig c.2.kind .vmem s e} {hg : s₀.Gathers a s} {sem : DmaSem sig}

/-- What list entry `j` starts once its word is read: the copy of the row the word names, if it names one. -/
abbrev served (src : Memref sig c.2.kind sp s₀ e) (dst : Memref sig c.2.kind .vmem s e) (hg : s₀.Gathers a s) (sem : DmaSem sig)
    (hsrc : src.view.WordExact) (he : e.bits = 32) (hsp : sp = .hbm ∨ sp = .shared) (hr : s₀.StreamRows a)
    (j : Fin (s.size hg.axis')) (w : Elt F .i32) : Option (RowDma τ sig (Elt F) c.2 sem) :=
  (rowOf (F := F) (s₀.size hg.axis) w).map (gatherRow c src dst hg sem hsrc he hsp hr j)

/-- Whatever row an entry's word names, the copy writes the same destination row. -/
theorem served_agree {offs : Memref sig c.2.kind .vmem si .i32} {hn : si.numel = s.size hg.axis'}
    {hsrc : src.view.WordExact} {he : e.bits = 32} {hsp : sp = .hbm ∨ sp = .shared} {hr : s₀.StreamRows a} :
    (Stream.issued (Val := Elt F) c offs.view hn sem (served c src dst hg sem hsrc he hsp hr) 0).RowsAgree := by
  rintro j w w' x x' h h'
  obtain ⟨r, -, hx⟩ := Option.map_eq_some_iff.mp h
  obtain ⟨r', -, hx'⟩ := Option.map_eq_some_iff.mp h'
  rw [← hx, ← hx']

/-- ONE ROW'S SHARE OF THE ISSUE: with the batch's right number `t`, the destination's row and a piece of the source, the
    row's copy is provided for as soon as `R` (the list entry's share) is given: landing, it delivers `D t`. -/
theorem row_provided [EC.LandsIn (upEmb : UEmb _ 𝕄)] {n : ℕ} {N : ℕ} {D : Fin n → sProp 𝕄} {γ : Fin n → ℕ} {γ₀ : ℕ} {κ : Name}
    {hsrc : src.view.WordExact} {he : e.bits = 32} {hsp : sp = .hbm ∨ sp = .shared} {hr : s₀.StreamRows a}
    {q' : PosShare TreeShare} {fs : Buf (Elt F) (src.view.loc c)} {fd : Buf (Elt F) (dst.view.loc c)} {R : sProp 𝕄}
    (j : Fin (s.size hg.axis')) (x : Fin (s₀.size hg.axis)) (t : Fin n)
    (hN : (dst.slice (s.rowRect hg.axis' j) (s.stride_rowRect hg.axis' j)).view.dmaCredit = N)
    (hD : iprop(((dst.view.loc c ↦[(dst.view.slice (s.rowRect hg.axis' j)).set]{fullShare}
        ((dst.view.slice (s.rowRect hg.axis' j)).write (Elt F) fd (fun i => src.view.read (Elt F) fs (hg.rowIdx x i)) Finset.univ)) ∗ R)
      ∗ (src.view.loc c ↦[src.view.set]{q'} fs)) ⊢ D t) :
    iprop(inv κ (batchBody EC (c, SemLoc.dma sem) N D γ γ₀)
        ∗ ((dst.view.loc c ↦[(dst.view.slice (s.rowRect hg.axis' j)).set]{fullShare} fd) ∗ (src.view.loc c ↦[src.view.set]{q'} fs) ∗ count EC (γ t) 0))
      ⊢ iprop(R -∗ rowRes c (gatherRow c src dst hg sem hsrc he hsp hr j x)) := by
  subst hN
  iintro ⟨#Hbatch, Hrow, Hpiece, Hright⟩ HR
  unfold rowRes
  iexists q', fs, _
  isplitl [Hpiece]; · iexact Hpiece
  isplitr [Hright]
  · iapply writeUpdate_frame
    isplitr [HR]; swap; · iexact HR
    iapply (pointsTo_writeUpdate c (v := dst.view.slice (s.rowRect hg.axis' j)) (Finset.Subset.refl _)); iexact Hrow
  · iapply (batch_creditUpdate EC t hD)
    isplitr
    · iexact Hbatch
    · iexact Hright

/-- An indirect gather at the head of a program, INTO A BATCH of which `b` row transfers have been issued: holding a
    share of the source, the destination outright, a share of the offset list whose words all name rows, and the batch
    whose next `o` deliveries are this gather's rows', the tile continues with the batch `o` transfers further. -/
theorem wp_gatherIntoBatch [Infinite Name] [EC.LandsIn (upEmb : UEmb _ 𝕄)] {n : ℕ}
    {offs : Memref sig c.2.kind .vmem si .i32} {hn : si.numel = s.size hg.axis'}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) {D : Fin n → sProp 𝕄} {b u : ℕ}
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hb : b + s.size hg.axis' ≤ n) (hu : u ≤ b * N)
    (hD : ∀ j, rowLanded c src dst hg offs hn q qo fs fd fo (rows (offs.view.read (Elt F) fo) hn hin) ho j ⊢ D (nextAt b _ hb j)) :
    iprop((src.view.loc c ↦[src.view.set]{q} fs) ∗ (dst.view.loc c ↦[dst.view.set]{fullShare} fd)
        ∗ (offs.view.loc c ↦[offs.view.set]{qo} fo) ∗ Batch EC c (.dma sem) ι N D b u)
      ⊢ iprop((Batch EC c (.dma sem) ι N D (b + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  have hrow : ∀ j, served c src dst hg sem hsrc he hsp hr j ((Stream.issued c offs.view hn sem (served c src dst hg sem hsrc he hsp hr) 0).word fo j)
      = some (gatherRow c src dst hg sem hsrc he hsp hr j (rows (offs.view.read (Elt F) fo) hn hin j)) := fun j =>
    congrArg (Option.map _) (rowOf_of_lt (hin (si.rowMajor.symm (j.cast hn.symm))))
  rw [enqueueIndirectGather_bind, pointsTo_rows c dst.view hg.axis', pointsTo_entries c offs.view _ (entry_bijective hn),
    pointsTo_piecesOf src.view.set fs ho]
  unfold Batch
  iintro ⟨Hsrc, Hdst, Hlist, ⟨%γ, %γ₀, %κ, #Hbatch, Hrights, Hrest, Hcred⟩⟩ Hk
  ihave Hsplit := (Entails.of_eq (bigSep_pending_next (fun t => count EC (γ t) 0) b _ hb)) $$ Hrights
  icases Hsplit with ⟨Hmine, Hlater⟩
  iapply (wp_enqueueIndirectDma 𝒱 c bd Set.univ (qo := qo) (fo := fo) ι (s.size hg.axis' * N) (served_agree c) hrow (sum_rowCredit_eq _ hN rfl)) $$ [Hdst Hlist Hsrc Hmine]
  · unfold Stream.res
    iapply Transfers.bigSep_sep_in
    isplitl [Hlist]; · iexact Hlist
    iapply (Transfers.bigSep_mono_pers Finset.univ _ _ _ fun j _ => row_provided EC c j _ (nextAt b _ hb j) (hN j) (hD j))
    isplitr; · iexact Hbatch
    iapply (Entails.of_eq (bigSep_zip _ _ _))
    isplitl [Hdst]; · iexact Hdst
    isplitl [Hsrc]; · iexact Hsrc
    iexact Hmine
  · iintro Hmore
    iapply Hk
    iexists γ, γ₀, κ
    isplitr; · iexact Hbatch
    isplitl [Hlater]; · iexact Hlater
    isplitl [Hrest]; · iexact Hrest
    rw [show (b + s.size hg.axis') * N - u = (b * N - u) + s.size hg.axis' * N by rw [Nat.add_mul]; omega, ← tallyAt_add]
    icombine Hcred Hmore as H
    iexact H

end Issue

end Cert.Proof.RowBatch

end
-- ==== Proof.Windows.lean ====
/-
  A buffer held through a view, cut into windows.

  A family of unit-stride rectangles that covers a shape, no index lying in two of them, cuts a view of that shape into
  slices: holding the view's elements is holding each slice's. Also: a window overwritten with what some contents read
  through it agrees with those contents there, so a buffer whose windows were filled one by one is held at the contents
  all the fillings agree with.
-/
module

public import Idealize.ShloMosaic.Lib.SparseCore.Stream

@[expose] public section

noncomputable section

namespace Cert.Proof.Windows

open Idealize.ShloMosaic
open Idealize.SL
open Idealize.SL.BI (sProp bigSep bigSep_congr)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable {κ : Kind} {sp : Space} {s : Shape} {e : EltTy} {T : Type} [Fintype T] [DecidableEq T]

/-- The slices of a view at a covering, disjoint family of rectangles have the view's elements between them. -/
theorem set_eq_biUnion (v : View sig κ sp s e) (r : T → Rect s) (hc : ∀ x, ∃ t, x ∈ (r t).set) :
    v.set = (Finset.univ : Finset T).biUnion fun t => (v.slice (r t)).set := by
  ext i
  constructor
  · intro hi
    obtain ⟨x, -, rfl⟩ := Finset.mem_map.mp hi
    obtain ⟨t, ht⟩ := hc x
    refine Finset.mem_biUnion.mpr ⟨t, Finset.mem_univ t, ?_⟩
    rw [View.set_slice]
    exact Finset.mem_map_of_mem _ ht
  · intro hi
    obtain ⟨t, -, ht⟩ := Finset.mem_biUnion.mp hi
    exact View.set_slice_subset v (r t) ht

/-- Slices at rectangles with no index in common have no element in common. -/
theorem disjoint_slices (v : View sig κ sp s e) (r : T → Rect s) (hd : ∀ x t t', x ∈ (r t).set → x ∈ (r t').set → t = t')
    {t t' : T} (h : t ≠ t') : Disjoint (v.slice (r t)).set (v.slice (r t')).set := by
  rw [View.set_slice, View.set_slice, Finset.disjoint_map, Finset.disjoint_left]
  exact fun x hx hx' => h (hd x t t' hx hx')

/-- Holding a view's elements is holding each slice's, at a family of rectangles that covers the shape disjointly. -/
theorem pointsTo_windows {c : Thread nD τ} (v : View sig c.2.kind sp s e) (r : T → Rect s) (hc : ∀ x, ∃ t, x ∈ (r t).set)
    (hd : ∀ x t t', x ∈ (r t).set → x ∈ (r t').set → t = t') (q : PosShare TreeShare) (f : Buf Val (v.loc c)) :
    (v.loc c ↦[v.set]{q} f : sProp 𝕄) = bigSep Finset.univ fun t => v.loc c ↦[(v.slice (r t)).set]{q} f := by
  rw [set_eq_biUnion v r hc, pointsTo_biUnion _ _ fun t _ t' _ h => disjoint_slices v r hd h]

/-- A view's elements overwritten with what `g` reads through it are `g`'s there. -/
theorem pointsTo_write_read {c : Thread nD τ} (v : View sig c.2.kind sp s e) (q : PosShare TreeShare) (f g : Buf Val (v.loc c))
    (w : s.Idx → Val e) (hw : w = v.read Val g) :
    (v.loc c ↦[v.set]{q} v.write Val f w Finset.univ : sProp 𝕄) = v.loc c ↦[v.set]{q} g := by
  refine pointsTo_congr fun i hi => ?_
  subst hw
  obtain ⟨x, -, rfl⟩ := Finset.mem_map.mp hi
  rw [View.write_emb_of_mem f _ (Finset.mem_univ x), View.read_apply]
  simp

end Cert.Proof.Windows

end
-- ==== Proof.KernelIdealPieces.lean ====
/-
  The pieces of the launch, for `KernelIdeal`: what each tile works on, and the values it holds there.

  Thirty-two tiles (two SparseCores of sixteen subcores) share one batch of 16384 (user, item) pairs. Tile `w` takes the
  512 pairs `512 w, …, 512 w + 511`. It copies row `w` of each index array (4 lines of 128 indices) into its own memory,
  gathers the rows the indices name from the two tables (four gathers of 128 rows per table, all eight on one semaphore),
  multiplies and adds the rows' sixteen columns pair by pair, and copies the 512 sums out. Here: the program as the
  launch theorem sees it, the memrefs of those steps and how the buffers are cut along them, the functions the buffers
  hold (`listOf`, `rowsOf`, `dotAt`), and what a copy or a gather leaves in terms of them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.ValueLayout
public import proofs.«01_k».proof.Proof.RowBatch
public import proofs.«01_k».proof.Proof.Windows
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on its semaphores and its buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers and the memrefs a tile names -/

abbrev IdxArr : Type := Memref sig .scVector .hbm S32x4x128 .i32
abbrev Table : Type := Memref sig .scVector .hbm S1000000x16 .f32
abbrev OutArr : Type := Memref sig .scVector .hbm S16384 .f32
abbrev List4 : Type := Memref sig .scVector .vmem S4x128 .i32
abbrev RowBuf : Type := Memref sig .scVector .vmem S512x16 .f32
abbrev SumBuf : Type := Memref sig .scVector .vmem S512 .f32

abbrev usersM : IdxArr := Memref.whole main_v0_scv
abbrev itemsM : IdxArr := Memref.whole main_v1_scv
abbrev utabM : Table := Memref.whole main_arg2_scv
abbrev itabM : Table := Memref.whole main_arg3_scv
abbrev outM : OutArr := Memref.whole main_v2_scv
abbrev ulistM : List4 := Memref.whole cc0_scratch0
abbrev ilistM : List4 := Memref.whole cc0_scratch1
abbrev urowsM : RowBuf := Memref.whole cc0_scratch2
abbrev irowsM : RowBuf := Memref.whole cc0_scratch3
abbrev sumsM : SumBuf := Memref.whole cc0_scratch4

abbrev cV (L : grid0.Coords) : Fin τ.nSC := (L 0).castLE hcore0
abbrev jV (L : grid0.Coords) : Fin τ.nSub := (L 1).castLE hsub0

/-- The number of the tile at grid coordinates `L`: twice its subcore plus its SparseCore. -/
def tileNo (L : grid0.Coords) : Fin 32 :=
  ⟨2 * (L 1).val + (L 0).val, by have h0 : (L 0).val < 2 := (L 0).isLt; have h1 : (L 1).val < 16 := (L 1).isLt; omega⟩

/-- The tile's row of an index array, as it addresses it. -/
abbrev idxRow (M : IdxArr) (L : grid0.Coords) : Memref sig .scVector .hbm S4x128 .i32 :=
  (M.slice (Rect.unit (s := S32x4x128) (k0_off1 L) S1x4x128.size (k0_off1_inb L)) (fun _ => rfl)).squeeze S4x128 squeezes_S1x4x128_S4x128
/-- A whole table, as a gather addresses it. -/
abbrev tabAll (M : Table) : Table := M.slice (Rect.unit (s := S1000000x16) ![0, 0] S1000000x16.size inb_S1000000x16_S1000000x16_0_0) (fun _ => rfl)

theorem chunk_inb (k : Fin 4) : ∀ a, (![128 * k.val, 0] : Fin 2 → Nat) a + S128x16.size a ≤ S512x16.size a := by
  have := k.isLt; intro a; match a with
  | 0 => show 128 * k.val + 128 ≤ 512; omega
  | 1 => show 0 + 16 ≤ 16; omega
theorem line_inb (k : Fin 4) : ∀ a, (![k.val, 0] : Fin 2 → Nat) a + S1x128.size a ≤ S4x128.size a := by
  have := k.isLt; intro a; match a with
  | 0 => show k.val + 1 ≤ 4; omega
  | 1 => show 0 + 128 ≤ 128; omega

abbrev chunkRect (k : Fin 4) : Rect S512x16 := Rect.unit (s := S512x16) ![128 * k.val, 0] S128x16.size (chunk_inb k)
abbrev lineRect (k : Fin 4) : Rect S4x128 := Rect.unit (s := S4x128) ![k.val, 0] S1x128.size (line_inb k)
/-- Rows `128 k, …, 128 k + 127` of a row buffer: where gather `k` lands. -/
abbrev chunk (M : RowBuf) (k : Fin 4) : Memref sig .scVector .vmem S128x16 .f32 := M.slice (chunkRect k) (fun _ => rfl)
/-- Line `k` of a tile's index list: gather `k`'s offsets. -/
abbrev line (M : List4) (k : Fin 4) : Memref sig .scVector .vmem S128 .i32 := (M.slice (lineRect k) (fun _ => rfl)).squeeze S128 squeezes_S1x128_S128
/-- The tile's 512 elements of the result. -/
abbrev outBlock (M : OutArr) (L : grid0.Coords) : Memref sig .scVector .hbm S512 .f32 :=
  M.slice (Rect.unit (s := S16384) (k0_off3 L) S512.size (k0_off3_inb L)) (fun _ => rfl)

theorem chunk_cover (x : S512x16.Idx) : ∃ k, x ∈ (chunkRect k).set := by
  have h : (x 0).val < 512 := (x 0).isLt
  have h1 : (x 1).val < 16 := (x 1).isLt
  refine ⟨⟨(x 0).val / 128, by omega⟩, Rect.mem_set_unit.mpr fun a => ?_⟩
  match a with
  | 0 => show 128 * ((x 0).val / 128) ≤ (x 0).val ∧ (x 0).val < 128 * ((x 0).val / 128) + 128; omega
  | 1 => show 0 ≤ (x 1).val ∧ (x 1).val < 0 + 16; omega
theorem chunk_unique (x : S512x16.Idx) (k k' : Fin 4) (h : x ∈ (chunkRect k).set) (h' : x ∈ (chunkRect k').set) : k = k' := by
  have h1 : 128 * k.val ≤ (x 0).val ∧ (x 0).val < 128 * k.val + 128 := Rect.mem_set_unit.mp h 0
  have h2 : 128 * k'.val ≤ (x 0).val ∧ (x 0).val < 128 * k'.val + 128 := Rect.mem_set_unit.mp h' 0
  exact Fin.ext (by omega)
theorem line_cover (x : S4x128.Idx) : ∃ k, x ∈ (lineRect k).set := by
  have h1 : (x 1).val < 128 := (x 1).isLt
  refine ⟨x 0, Rect.mem_set_unit.mpr fun a => ?_⟩
  match a with
  | 0 => show (x 0).val ≤ (x 0).val ∧ (x 0).val < (x 0).val + 1; omega
  | 1 => show 0 ≤ (x 1).val ∧ (x 1).val < 0 + 128; omega
theorem line_unique (x : S4x128.Idx) (k k' : Fin 4) (h : x ∈ (lineRect k).set) (h' : x ∈ (lineRect k').set) : k = k' := by
  have h1 : k.val ≤ (x 0).val ∧ (x 0).val < k.val + 1 := Rect.mem_set_unit.mp h 0
  have h2 : k'.val ≤ (x 0).val ∧ (x 0).val < k'.val + 1 := Rect.mem_set_unit.mp h' 0
  exact Fin.ext (by omega)

section Cuts

variable {c : Thread nD τ}

/-- A row buffer held is its four chunks held. -/
theorem rowBuf_chunks (M : Memref sig c.2.kind .vmem S512x16 .f32) (q : PosShare TreeShare) (f : Buf (Elt F) (M.view.loc c)) :
    (M.view.loc c ↦[M.view.set]{q} f : sProp 𝕄)
      = bigSep Finset.univ fun k : Fin 4 => (M.view.loc c ↦[(M.view.slice (chunkRect k)).set]{q} f : sProp 𝕄) :=
  Windows.pointsTo_windows M.view chunkRect chunk_cover chunk_unique q f

/-- A tile's index list held is its four lines held. -/
theorem list_lines (M : Memref sig c.2.kind .vmem S4x128 .i32) (q : PosShare TreeShare) (f : Buf (Elt F) (M.view.loc c)) :
    (M.view.loc c ↦[M.view.set]{q} f : sProp 𝕄)
      = bigSep Finset.univ fun k : Fin 4 => (M.view.loc c ↦[(M.view.slice (lineRect k)).set]{q} f : sProp 𝕄) :=
  Windows.pointsTo_windows M.view lineRect line_cover line_unique q f

end Cuts

/-! ## The values -/

/-- The table row an index word names. -/
def rowNo (v : BitVec 32) : Fin 1000000 := ⟨v.toNat % 1000000, Nat.mod_lt _ (by decide)⟩

/-- Row `w` of an index array: the indices of tile `w`'s pairs, four lines of 128. -/
def listOf (a : S32x4x128.Idx → BitVec 32) (w : Fin 32) : S4x128.Idx → BitVec 32 := fun x => a (ix3 w (x 0) (x 1))

/-- The index of pair `r` of a tile. -/
def pairAt (r : Fin 512) : S4x128.Idx := ix2 ⟨r.val / 128, by omega⟩ ⟨r.val % 128, Nat.mod_lt _ (by decide)⟩

/-- The 512 table rows a tile's index list names. -/
def rowsOf (t : S1000000x16.Idx → F .f32) (l : S4x128.Idx → BitVec 32) : S512x16.Idx → F .f32 :=
  fun x => t (ix2 (rowNo (l (pairAt (x 0)))) (x 1))

variable [FloatOps F]

/-- The sum of the products of two rows' sixteen columns, taken in order from zero. -/
def dot (a b : Fin 16 → F .f32) : F .f32 :=
  (List.finRange 16).foldl (fun s j => FloatOps.addf s (FloatOps.mulf (a j) (b j))) (Scalar.ofBits .f32 0x00000000#32)

/-- Each pair's sum over a tile's two row buffers. -/
def dotAt (a b : S512x16.Idx → F .f32) : S512.Idx → F .f32 := fun x => dot (fun j => a (ix2 (x 0) j)) (fun j => b (ix2 (x 0) j))

/-- The tile that sums pair `n` of the batch. -/
def ownerOf (n : Fin 16384) : Fin 32 := ⟨n.val / 512, by omega⟩
/-- Pair `n`'s number in its tile. -/
def inTile (n : Fin 16384) : Fin 512 := ⟨n.val % 512, Nat.mod_lt _ (by decide)⟩

/-- The kernel's result, from the two index arrays and the two tables. -/
def sumsOf (u i : S32x4x128.Idx → BitVec 32) (tu ti : S1000000x16.Idx → F .f32) : S16384.Idx → F .f32 :=
  fun n => dotAt (rowsOf tu (listOf u (ownerOf (n 0)))) (rowsOf ti (listOf i (ownerOf (n 0)))) (ix1 (inTile (n 0)))

/-! ## What the copies and the gathers read -/

omit [FloatOps F] in
/-- The tile's row of an index array reads `listOf`. -/
theorem read_idxRow (M : IdxArr) (L : grid0.Coords) (f : M.view.ty.Contents (Elt F)) :
    (idxRow M L).view.read (Elt F) f = listOf (M.view.read (Elt F) f) (tileNo L) := by
  funext x
  show M.view.read (Elt F) f ((Rect.unit (s := S32x4x128) (k0_off1 L) S1x4x128.size (k0_off1_inb L)).emb
    (Shape.reshapeEquiv squeezes_S1x4x128_S4x128.numel_eq x)) = M.view.read (Elt F) f (ix3 (tileNo L) (x 0) (x 1))
  congr 1
  have e : Shape.reshapeEquiv squeezes_S1x4x128_S4x128.numel_eq x = (ix3 (⟨0, Nat.one_pos⟩ : Fin 1) (x 0) (x 1) : S1x4x128.Idx) :=
    Shape.reshapeEquiv_eq_of_rowMajor _ (by
      rw [Shape.rowMajor_val_three, Shape.rowMajor_val_two]
      show (0 * 4 + (x 0).val) * 128 + (x 1).val = (x 0).val * 128 + (x 1).val
      omega)
  rw [e]
  funext a
  refine Fin.ext ?_
  rw [Rect.emb_apply]
  show k0_off1 L a + 1 * (ix3 (⟨0, Nat.one_pos⟩ : Fin 1) (x 0) (x 1) a : Fin _).val = _
  have e1 := congrFun (k0_off1_eq L) a
  match a with
  | 0 =>
    have e2 : k0_off1 L 0 = 2 * (L 1).val + (L 0).val := e1
    show k0_off1 L 0 + 1 * 0 = 2 * (L 1).val + (L 0).val; omega
  | 1 =>
    have e2 : k0_off1 L 1 = 0 := e1
    show k0_off1 L 1 + 1 * (x 0).val = (x 0).val; omega
  | 2 =>
    have e2 : k0_off1 L 2 = 0 := e1
    show k0_off1 L 2 + 1 * (x 1).val = (x 1).val; omega

omit [FloatOps F] in
/-- Line `k` of an index list, entry by entry. -/
theorem read_line (M : List4) (k : Fin 4) (f : M.view.ty.Contents (Elt F)) (x : S128.Idx) :
    (line M k).view.read (Elt F) f x = M.view.read (Elt F) f (ix2 k (x 0)) := by
  show M.view.read (Elt F) f ((lineRect k).emb (Shape.reshapeEquiv squeezes_S1x128_S128.numel_eq x)) = _
  congr 1
  have e : Shape.reshapeEquiv squeezes_S1x128_S128.numel_eq x = (ix2 (⟨0, Nat.one_pos⟩ : Fin 1) (x 0) : S1x128.Idx) :=
    Shape.reshapeEquiv_eq_of_rowMajor _ (by
      rw [Shape.rowMajor_val_two, Shape.rowMajor_val_one]
      show 0 * 128 + (x 0).val = (x 0).val
      omega)
  rw [e]
  funext a
  refine Fin.ext ?_
  rw [Rect.emb_apply]
  match a with
  | 0 => show k.val + 1 * 0 = k.val; omega
  | 1 => show 0 + 1 * (x 0).val = (x 0).val; omega

omit [FloatOps F] in
/-- A gather's list is in range when the whole index list is. -/
theorem line_in_range (M : List4) (k : Fin 4) (f : M.view.ty.Contents (Elt F))
    (h : ∀ x, (M.view.read (Elt F) f x).toNat < 1000000) :
    ∀ x, ((line M k).view.read (Elt F) f x).toNat < S1000000x16.size gathers_S1000000x16_S128x16.axis := by
  intro x
  rw [read_line]
  exact h _

omit [FloatOps F] in
/-- Gather `k`'s payload is what any contents that read `rowsOf` hold in chunk `k`. -/
theorem gather_reads (T : Table) (M : RowBuf) (N : List4) (k : Fin 4) (ft : T.view.ty.Contents (Elt F)) (fl : N.view.ty.Contents (Elt F))
    (g : M.view.ty.Contents (Elt F)) (h : ∀ x, (N.view.read (Elt F) fl x).toNat < 1000000)
    (hg : M.view.read (Elt F) g = rowsOf (T.view.read (Elt F) ft) (N.view.read (Elt F) fl)) :
    SparseCore.gatherPayload gathers_S1000000x16_S128x16 ((tabAll T).view.read (Elt F) ft)
        (SparseCore.rows ((line N k).view.read (Elt F) fl) rfl (line_in_range N k fl h))
      = (chunk M k).view.read (Elt F) g := by
  funext x
  have hr : (chunk M k).view.read (Elt F) g x = M.view.read (Elt F) g ((chunkRect k).emb x) := rfl
  rw [hr, hg]
  show T.view.read (Elt F) ft ((Rect.unit (s := S1000000x16) ![0, 0] S1000000x16.size inb_S1000000x16_S1000000x16_0_0).emb
      (gathers_S1000000x16_S128x16.idx (SparseCore.rows ((line N k).view.read (Elt F) fl) rfl (line_in_range N k fl h)) x)) = _
  unfold rowsOf
  congr 1
  obtain ⟨p, c, rfl⟩ : ∃ (p : Fin 128) (c : Fin 16), x = ix2 p c := ⟨x 0, x 1, eq_ix2 x⟩
  have hx := p.isLt
  have hk := k.isLt
  have e0 : ((chunkRect k).emb (ix2 p c) 0).val = 128 * k.val + p.val := by
    rw [Rect.emb_apply]; show 128 * k.val + 1 * p.val = _; omega
  have e1 : ((chunkRect k).emb (ix2 p c) 1).val = c.val := by
    rw [Rect.emb_apply]; show 0 + 1 * c.val = _; omega
  have ep : pairAt ((chunkRect k).emb (ix2 p c) 0) = ix2 k p := by
    have d0 : ((chunkRect k).emb (ix2 p c) 0).val / 128 = k.val := by rw [e0]; omega
    have d1 : ((chunkRect k).emb (ix2 p c) 0).val % 128 = p.val := by rw [e0]; omega
    funext a
    match a with
    | 0 => exact Fin.ext d0
    | 1 => exact Fin.ext d1
  rw [ep]
  funext a
  refine Fin.ext ?_
  rw [Rect.emb_apply]
  match a with
  | 0 =>
    show 0 + 1 * ((line N k).view.read (Elt F) fl (S128.rowMajor.symm (p.cast (rfl : 128 = S128.numel)))).toNat = (N.view.read (Elt F) fl (ix2 k p)).toNat % 1000000
    have es : S128.rowMajor.symm (p.cast (rfl : 128 = S128.numel)) = (ix1 p : S128.Idx) := by
      rw [Equiv.symm_apply_eq]
      refine Fin.ext ?_
      rw [Shape.rowMajor_val_one]
      rfl
    rw [es, read_line, Nat.mod_eq_of_lt (h _)]
    show 0 + 1 * (N.view.read (Elt F) fl (ix2 k p)).toNat = _
    omega
  | 1 =>
    show 0 + 1 * c.val = ((chunkRect k).emb (ix2 p c) 1).val
    rw [e1]; omega

end Cert.Proof.KernelIdealRun

end
-- ==== Proof.KernelIdealGathers.lean ====
/-
  The eight gathers of one tile, for `KernelIdeal`.

  All eight raise one semaphore, so they are one batch of 1024 row transfers: transfer `256 k + r` is row `r` of the
  `k`-th user gather, transfer `256 k + 128 + r` row `r` of the `k`-th item gather. Here: what a row brings (`brings`),
  the batch's deliveries (`delivered`), the issue of one gather into the batch (`wp_gather`), and what all the
  deliveries together are (`delivered_all`): both row buffers filled with the rows the two index lists name.
-/
module

public import proofs.«01_k».proof.Proof.KernelIdealPieces

@[expose] public section

noncomputable section

namespace Cert.Proof.KernelIdealRun

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.ShloMosaic.Transfers (Batch)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable {d : Fin nD} {i : Fin τ.nSC} {j : Fin τ.nSub}

theorem four_pos : 0 < 4 := by decide
theorem rows_pos : 0 < S128x16.size gathers_S1000000x16_S128x16.axis' := by decide

/-- What row `r` of gather `k` brings: table `T`, row buffer `M`, index list `N`. -/
def brings (T : Table) (M : RowBuf) (N : List4) (q : PosShare TreeShare) (ft : Buf (Elt F) (T.view.loc (V d i j)))
    (fm : Buf (Elt F) (M.view.loc (V d i j))) (fl : Buf (Elt F) (N.view.loc (V d i j)))
    (h : ∀ x, (N.view.read (Elt F) fl x).toNat < 1000000) (k : Fin 4) (r : Fin 128) : sProp 𝕄 :=
  RowBatch.rowLanded (V d i j) (tabAll T) (chunk M k) gathers_S1000000x16_S128x16 (line N k) rfl (pieceOf q 4 four_pos k)
    fullShare ft fm fl (SparseCore.rows ((line N k).view.read (Elt F) fl) rfl (line_in_range N k fl h)) rows_pos r

instance brings_storable (T : Table) (M : RowBuf) (N : List4) (q : PosShare TreeShare) (ft : Buf (Elt F) (T.view.loc (V d i j)))
    (fm : Buf (Elt F) (M.view.loc (V d i j))) (fl : Buf (Elt F) (N.view.loc (V d i j)))
    (h : ∀ x, (N.view.read (Elt F) fl x).toNat < 1000000) (k : Fin 4) (r : Fin 128) :
    Storable (upEmb : UEmb _ 𝕄) (brings T M N q ft fm fl h k r) := by
  exact RowBatch.rowLanded_storable (Ix := HIx 1) (Name := ℕ) (U := UU) (Lvl := ℕ) _ _ _ _ _ _ _ _ _ _ _ _ _ _

/-- A table's elements, as a gather addresses them, are the table's elements. -/
theorem tabAll_set (T : Table) : (tabAll T).view.set = T.view.set := by
  show (T.view.slice _).set = _
  rw [View.set_slice]
  have e : (Rect.unit (s := S1000000x16) ![0, 0] S1000000x16.size inb_S1000000x16_S1000000x16_0_0).set = Finset.univ := by
    refine Finset.eq_univ_iff_forall.mpr fun x => Rect.mem_set_unit.mpr fun a => ?_
    have hx := (x a).isLt
    match a with
    | 0 => exact ⟨Nat.zero_le _, by show (x 0).val < 0 + 1000000; rw [Nat.zero_add]; exact hx⟩
    | 1 => exact ⟨Nat.zero_le _, by show (x 1).val < 0 + 16; rw [Nat.zero_add]; exact hx⟩
  rw [e]; rfl

/-- A share of a table is its four pieces, one per gather. -/
theorem table_pieces (T : Table) (q : PosShare TreeShare) (ft : Buf (Elt F) (T.view.loc (V d i j))) :
    (T.view.loc (V d i j) ↦[T.view.set]{q} ft : sProp 𝕄)
      = bigSep Finset.univ fun k : Fin 4 => (T.view.loc (V d i j) ↦[(tabAll T).view.set]{pieceOf q 4 four_pos k} ft : sProp 𝕄) := by
  rw [tabAll_set]
  exact pointsTo_piecesOf (ℓ := T.view.loc (V d i j)) (o := 4) T.view.set ft four_pos q

/-- The rows of the four gathers of one table, landed: the row buffer holds what it should, the index list and the table
    are back. -/
theorem brings_all (T : Table) (M : RowBuf) (N : List4) (q : PosShare TreeShare) (ft : Buf (Elt F) (T.view.loc (V d i j)))
    (fm g : Buf (Elt F) (M.view.loc (V d i j))) (fl : Buf (Elt F) (N.view.loc (V d i j)))
    (h : ∀ x, (N.view.read (Elt F) fl x).toNat < 1000000)
    (hg : M.view.read (Elt F) g = rowsOf (T.view.read (Elt F) ft) (N.view.read (Elt F) fl)) :
    (bigSep Finset.univ fun k : Fin 4 => bigSep Finset.univ (brings T M N q ft fm fl h k))
      ⊢ (iprop((M.view.loc (V d i j) ↦[M.view.set]{fullShare} g) ∗ (N.view.loc (V d i j) ↦[N.view.set]{fullShare} fl)
          ∗ (T.view.loc (V d i j) ↦[T.view.set]{q} ft)) : sProp 𝕄) := by
  have one : ∀ k : Fin 4, bigSep Finset.univ (brings T M N q ft fm fl h k)
      ⊢ (iprop(((M.view.loc (V d i j) ↦[(M.view.slice (chunkRect k)).set]{fullShare} g)
          ∗ (N.view.loc (V d i j) ↦[(N.view.slice (lineRect k)).set]{fullShare} fl))
          ∗ (T.view.loc (V d i j) ↦[(tabAll T).view.set]{pieceOf q 4 four_pos k} ft)) : sProp 𝕄) := fun k => by
    have e := Windows.pointsTo_write_read (Ix := HIx 1) (Name := ℕ) (U := UU) (Lvl := ℕ) (c := V d i j) (chunk M k).view fullShare fm g _ (gather_reads T M N k ft fl g h hg)
    have hl : (line N k).view.set = (N.view.slice (lineRect k)).set := View.set_reshape _ _
    have a : bigSep Finset.univ (brings T M N q ft fm fl h k)
        ⊢ (iprop((M.view.loc (V d i j) ↦[(chunk M k).view.set]{fullShare} ((chunk M k).view.write (Elt F) fm
              (SparseCore.gatherPayload gathers_S1000000x16_S128x16 ((tabAll T).view.read (Elt F) ft)
                (SparseCore.rows ((line N k).view.read (Elt F) fl) rfl (line_in_range N k fl h))) Finset.univ))
            ∗ (N.view.loc (V d i j) ↦[(line N k).view.set]{fullShare} fl)
            ∗ (T.view.loc (V d i j) ↦[(tabAll T).view.set]{pieceOf q 4 four_pos k} ft)) : sProp 𝕄) :=
      RowBatch.rowLanded_all (Ix := HIx 1) (Name := ℕ) (U := UU) (Lvl := ℕ) (V d i j) (src := tabAll T) (dst := chunk M k) (hg := gathers_S1000000x16_S128x16)
        (offs := line N k) (hn := rfl) (q := pieceOf q 4 four_pos k) (qo := fullShare) (fs := ft) (fd := fm) (fo := fl)
        (r := SparseCore.rows ((line N k).view.read (Elt F) fl) rfl (line_in_range N k fl h)) (ho := rows_pos)
    rw [hl] at a
    iintro H
    ihave H' := a $$ H
    icases H' with ⟨H1, H2, H3⟩
    isplitr [H3]
    · isplitl [H1]
      · iapply (Entails.of_eq e); iexact H1
      · iexact H2
    · iexact H3
  iintro H
  have all : (bigSep Finset.univ fun k : Fin 4 => bigSep Finset.univ (brings T M N q ft fm fl h k))
      ⊢ (bigSep Finset.univ fun k : Fin 4 => iprop(((M.view.loc (V d i j) ↦[(M.view.slice (chunkRect k)).set]{fullShare} g)
          ∗ (N.view.loc (V d i j) ↦[(N.view.slice (lineRect k)).set]{fullShare} fl))
          ∗ (T.view.loc (V d i j) ↦[(tabAll T).view.set]{pieceOf q 4 four_pos k} ft)) : sProp 𝕄) := BI.bigSep_mono fun k _ => one k
  ihave H1 := all $$ H
  ihave H2 := Transfers.bigSep_sep_out _ _ _ $$ H1
  icases H2 with ⟨H3, Ht⟩
  ihave H4 := Transfers.bigSep_sep_out _ _ _ $$ H3
  icases H4 with ⟨Hm, Hl⟩
  isplitl [Hm]; · iapply (Entails.of_eq (rowBuf_chunks (c := V d i j) M fullShare g).symm); iexact Hm
  isplitl [Hl]; · iapply (Entails.of_eq (list_lines (c := V d i j) N fullShare fl).symm); iexact Hl
  iapply (Entails.of_eq (table_pieces T q ft).symm); iexact Ht

/-! ## The batch -/

/-- The bits one row transfer raises the semaphore by. -/
abbrev rowCredit : ℕ := 512

/-- The batch's deliveries: the user gathers' rows and the item gathers' rows, in the order of issue. -/
def delivered (U I : Fin 4 → Fin 128 → sProp 𝕄) : Fin (4 * (2 * 128)) → sProp 𝕄 :=
  RowBatch.flat fun k => RowBatch.flat (m := 2) fun e => if e = 0 then U k else I k

instance delivered_storable (U I : Fin 4 → Fin 128 → sProp 𝕄) [∀ k r, Storable (upEmb : UEmb _ 𝕄) (U k r)]
    [∀ k r, Storable (upEmb : UEmb _ 𝕄) (I k r)] (t : Fin (4 * (2 * 128))) : Storable (upEmb : UEmb _ 𝕄) (delivered U I t) := by
  have hs : ∀ (k : Fin 4) (e : Fin 2) (r : Fin 128), Storable (upEmb : UEmb _ 𝕄) ((if e = 0 then U k else I k) r) := fun k e r => by
    split <;> infer_instance
  unfold delivered; infer_instance

theorem delivered_at (U I : Fin 4 → Fin 128 → sProp 𝕄) (k : Fin 4) (e : Fin 2) (b : ℕ) (hb : b + 128 ≤ 4 * (2 * 128))
    (he : b = 256 * k.val + 128 * e.val) (r : Fin 128) :
    delivered U I (RowBatch.nextAt b 128 hb r) = (if e = 0 then U k else I k) r := by
  subst he
  have hk := k.isLt
  have he := e.isLt
  have h1 : e.val * 128 + 128 ≤ 2 * 128 := by omega
  have h2 : k.val * (2 * 128) + 2 * 128 ≤ 4 * (2 * 128) := by omega
  have e1 : RowBatch.nextAt (256 * k.val + 128 * e.val) 128 hb r
      = RowBatch.nextAt (k.val * (2 * 128)) (2 * 128) h2 (RowBatch.nextAt (e.val * 128) 128 h1 r) := Fin.ext (by
    rw [RowBatch.nextAt_val, RowBatch.nextAt_val, RowBatch.nextAt_val]; omega)
  unfold delivered
  rw [e1, RowBatch.flat_nextAt, RowBatch.flat_nextAt]

theorem delivered_user (U I : Fin 4 → Fin 128 → sProp 𝕄) (k : Fin 4) (b : ℕ) (hb : b + 128 ≤ 4 * (2 * 128)) (he : b = 256 * k.val) (r : Fin 128) :
    delivered U I (RowBatch.nextAt b 128 hb r) = U k r := delivered_at U I k 0 b hb (by rw [he]; rfl) r

theorem delivered_item (U I : Fin 4 → Fin 128 → sProp 𝕄) (k : Fin 4) (b : ℕ) (hb : b + 128 ≤ 4 * (2 * 128)) (he : b = 256 * k.val + 128) (r : Fin 128) :
    delivered U I (RowBatch.nextAt b 128 hb r) = I k r := delivered_at U I k 1 b hb (by rw [he]; rfl) r

/-- All the deliveries are the user gathers' and the item gathers'. -/
theorem delivered_all (U I : Fin 4 → Fin 128 → sProp 𝕄) :
    bigSep Finset.univ (delivered U I)
      ⊢ iprop((bigSep Finset.univ fun k => bigSep Finset.univ (U k)) ∗ (bigSep Finset.univ fun k => bigSep Finset.univ (I k))) := by
  unfold delivered
  rw [RowBatch.bigSep_flat]
  have e : ∀ k : Fin 4, bigSep Finset.univ (RowBatch.flat (m := 2) fun e => if e = 0 then U k else I k)
      = iprop(bigSep Finset.univ (U k) ∗ bigSep Finset.univ (I k)) := fun k => by
    rw [RowBatch.bigSep_flat, BI.bigSep_fin_two]; rfl
  rw [BI.bigSep_congr fun k _ => e k]
  exact Transfers.bigSep_sep_out _ _ _

variable [FloatOps F]

/-- The issue of gather `k` of one table, into the batch. -/
theorem wp_gather {Λ : Labels} {defs : Defs nD τ sig (Elt F) Λ} (𝒲 : Variants) (bd : Option 𝒲.V) {α : Type} {Q : α → sProp 𝕄}
    (T : Table) (M : RowBuf) (N : List4) (q : PosShare TreeShare) (ft : Buf (Elt F) (T.view.loc (V d i j)))
    (fm : Buf (Elt F) (M.view.loc (V d i j))) (fl : Buf (Elt F) (N.view.loc (V d i j)))
    (h : ∀ x, (N.view.read (Elt F) fl x).toNat < 1000000) (k : Fin 4) {sem : DmaSem sig}
    {hsrc : (tabAll T).view.WordExact} {hr : S1000000x16.StreamRows 0}
    {D : Fin (4 * (2 * 128)) → sProp 𝕄} (b b' : ℕ) (hb' : b' = b + 128) (hb : b + 128 ≤ 4 * (2 * 128))
    (hD : ∀ r, D (RowBatch.nextAt b 128 hb r) = brings T M N q ft fm fl h k r)
    {kont : PUnit → Prog (TpuEff nD τ sig (Elt F) Λ (V d i j).2) α} :
    iprop((T.view.loc (V d i j) ↦[(tabAll T).view.set]{pieceOf q 4 four_pos k} ft)
        ∗ (M.view.loc (V d i j) ↦[(M.view.slice (chunkRect k)).set]{fullShare} fm)
        ∗ (N.view.loc (V d i j) ↦[(N.view.slice (lineRect k)).set]{fullShare} fl)
        ∗ Batch countersEmb (V d i j) (.dma sem) default rowCredit D b 0)
      ⊢ iprop((Batch countersEmb (V d i j) (.dma sem) default rowCredit D b' 0 -∗ wp frame (wpE defs 𝒲 (V d i j) bd) Set.univ (kont ⟨⟩) Q)
          -∗ wp frame (wpE defs 𝒲 (V d i j) bd) Set.univ
            (SparseCore.enqueueIndirectGather (p := (V d i j).2) rfl (tabAll T) (chunk M k) gathers_S1000000x16_S128x16 (line N k) rfl sem hsrc rfl (Or.inl rfl) hr >>= kont) Q) := by
  subst hb'
  have hl : (line N k).view.set = (N.view.slice (lineRect k)).set := View.set_reshape _ _
  have g := RowBatch.wp_gatherIntoBatch (defs := defs) (Ix := HIx 1) (Name := ℕ) (U := UU) (Lvl := ℕ) (Q := Q)
    countersEmb 𝒲 (V d i j) bd (src := tabAll T) (dst := chunk M k) (hg := gathers_S1000000x16_S128x16) (offs := line N k) (hn := rfl) (sem := sem)
    (hp := rfl) (hsrc := hsrc) (he := rfl) (hsp := Or.inl rfl) (hr := hr) (k := kont) (q := pieceOf q 4 four_pos k) (qo := fullShare) (fs := ft) (fd := fm) (fo := fl)
    default rowCredit (D := D) (b := b) (u := 0) (fun _ => rfl) rows_pos (line_in_range N k fl h) hb (Nat.zero_le _)
    (fun r => Entails.of_eq (hD r).symm)
  rw [hl] at g
  exact g

end

end Cert.Proof.KernelIdealRun

end
-- ==== Proof.KernelIdealLoop.lean ====
/-
  The loop of one tile, for `KernelIdeal`: trip `t` of thirty-two loads the sixteen columns of rows `16 t, …, 16 t + 15`
  of both row buffers, lane by row, adds the products, and stores the sixteen sums. The invariant holds the values: after
  `t` trips the first `16 t` sums are `dotAt`.
-/
module

public import proofs.«01_k».proof.Proof.KernelIdealPieces

@[expose] public section

noncomputable section

namespace Cert.Proof.KernelIdealRun

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The loop has thirty-two trips. -/
theorem trips_eq : k0_t1_loop.trips = 32 := by decide +kernel

theorem trip_lt (t : Fin k0_t1_loop.trips) : t.val < 32 := Nat.lt_of_lt_of_eq t.isLt trips_eq

/-- The row lane `x` of trip `t` works on. -/
def rowAt (t : Fin k0_t1_loop.trips) (x : S16.Idx) : Fin 512 :=
  ⟨16 * t.val + (x 0).val, by have h := trip_lt t; have hx : (x 0).val < 16 := (x 0).isLt; omega⟩

/-- The lane numbers of a vector. -/
abbrev lanes : IVec S16 32 := iota .scVector S16 32 [0] iota_S16_d0_w32_scVector

/-- The row word of lane `x` in trip `t`. -/
theorem row_word (t : Fin k0_t1_loop.trips) (x : S16.Idx) : (k0_pay1 lanes 0#32 1#32 t x).toNat = (rowAt t x).val := by
  have h := trip_lt t
  have hx : (x 0).val < 16 := (x 0).isLt
  show ((0#32 + BitVec.ofNat 32 t.val * 1#32) * 16#32 + BitVec.ofNat 32 (0 * 16 + (x 0).val)).toNat = 16 * t.val + (x 0).val
  simp only [BitVec.toNat_add, BitVec.toNat_mul, BitVec.toNat_ofNat]
  omega

/-- Row and column words name elements of a row buffer. -/
theorem words_in (t : Fin k0_t1_loop.trips) (w : BitVec 32) (hw : w.toNat < 16) :
    ∀ a x, ((![k0_pay1 lanes 0#32 1#32 t, broadcast S16 w] : Fin 2 → IVec S16 32) a x).toNat < S512x16.size a := by
  intro a x
  match a with
  | 0 => show (k0_pay1 lanes 0#32 1#32 t x).toNat < 512; rw [row_word]; exact (rowAt t x).isLt
  | 1 => exact hw

/-- An indexed load of one column: lane `x` is the column of row `rowAt t x`. -/
theorem column (t : Fin k0_t1_loop.trips) (f : S512x16.Idx → F .f32) (w : BitVec 32)
    (h : ∀ a x, ((![k0_pay1 lanes 0#32 1#32 t, broadcast S16 w] : Fin 2 → IVec S16 32) a x).toNat < S512x16.size a) :
    loadIdx (F := F) (e := .f32) f ![k0_pay1 lanes 0#32 1#32 t, broadcast S16 w] h = fun x => f (ix2 (rowAt t x) (Fin.ofNat 16 w.toNat)) := by
  funext x
  have hw : w.toNat < 16 := h 1 x
  show f (idxAt _ h x) = _
  congr 1
  funext a
  match a with
  | 0 => exact Fin.ext (row_word t x)
  | 1 => exact Fin.ext (Nat.mod_eq_of_lt hw).symm

variable [FloatOps F]

/-- The trip's sixteen sums. -/
def sumsAt (a b : S512x16.Idx → F .f32) (t : Fin k0_t1_loop.trips) : S16.Idx → F .f32 := fun x => dotAt a b (ix1 (rowAt t x))

abbrev storeRect (t : Fin k0_t1_loop.trips) : Rect S512 := Rect.unit (s := S512) (k0_off2 t) S16.size (k0_off2_inb t)

/-- A trip's store extends the sums already there by its sixteen. -/
theorem store_extends (a b : S512x16.Idx → F .f32) (t : Fin k0_t1_loop.trips) (f : S512.Idx → F .f32)
    (hf : ∀ x : S512.Idx, (x 0).val < 16 * t.val → f x = dotAt a b x) (x : S512.Idx) (hx : (x 0).val < 16 * (t.val + 1)) :
    (sumsM.access (storeRect t)).write (Elt F) f (sumsAt a b t) Finset.univ x = dotAt a b x := by
  have e0 : k0_off2 t 0 = 16 * t.val := congrFun (k0_off2_eq t) 0
  by_cases h : 16 * t.val ≤ (x 0).val
  · have hx' : x = (sumsM.access (storeRect t)).emb (ix1 (⟨(x 0).val - 16 * t.val, by omega⟩ : Fin 16) : S16.Idx) := by
      funext a
      match a with
      | 0 =>
        refine Fin.ext ?_
        show (x 0).val = ((storeRect t).emb (ix1 (⟨(x 0).val - 16 * t.val, by omega⟩ : Fin 16) : S16.Idx) 0).val
        rw [Rect.emb_apply]
        show (x 0).val = k0_off2 t 0 + 1 * ((x 0).val - 16 * t.val)
        omega
    refine (congrArg _ hx').trans ((View.write_emb_of_mem (v := sumsM.access (storeRect t)) (Val := Elt F) f (sumsAt a b t) (Finset.mem_univ _)).trans ?_)
    show dotAt a b (ix1 (rowAt t _)) = dotAt a b x
    congr 1
    funext a
    match a with
    | 0 => refine Fin.ext ?_; show 16 * t.val + ((x 0).val - 16 * t.val) = (x 0).val; omega
  · refine (View.write_of_not_mem (v := sumsM.access (storeRect t)) (Val := Elt F) f (sumsAt a b t) Finset.univ fun hm => h ?_).trans (hf x (by omega))
    obtain ⟨y, -, hy⟩ := Finset.mem_map.mp hm
    have e := congrArg (fun z : S512.Idx => (z 0).val) hy
    have e1 : ((storeRect t).emb y 0).val = (x 0).val := e
    rw [Rect.emb_apply] at e1
    have e2 : k0_off2 t 0 + 1 * (y 0).val = (x 0).val := e1
    omega

theorem columns : List.finRange 16 = [0, 1, 2, 3, 4, 5, 6, 7, 8, 9, 10, 11, 12, 13, 14, 15] := by decide

set_option maxHeartbeats 4000000 in
/-- One trip: the row buffers unchanged, the trip's sums stored. -/
theorem wp_trip (d : Fin nD) (L : grid0.Coords) (a b : S512x16.Idx → F .f32) (f : S512.Idx → F .f32) (t : Fin k0_t1_loop.trips) :
    iprop((urowsM.view.loc (V d (cV L) (jV L)) ↦[Finset.univ]{fullShare} a) ∗ (irowsM.view.loc (V d (cV L) (jV L)) ↦[Finset.univ]{fullShare} b)
        ∗ (sumsM.view.loc (V d (cV L) (jV L)) ↦[Finset.univ]{fullShare} f))
      ⊢ wp frame (wpE (defs₀ (F := F)) 𝒱₀ (V d (cV L) (jV L)) none) Set.univ
          (k0_t1_body L usersM (Memref.isWhole_whole _) itemsM (Memref.isWhole_whole _) utabM (Memref.isWhole_whole _) itabM (Memref.isWhole_whole _) outM (Memref.isWhole_whole _)
            ulistM (Memref.isWhole_whole _) ilistM (Memref.isWhole_whole _) urowsM (Memref.isWhole_whole _) irowsM (Memref.isWhole_whole _) sumsM (Memref.isWhole_whole _)
            cc0_scratch5 cc0_scoped0 cc0_scoped1 cc0_scoped2 lanes t ⟨⟩)
          fun _ => (iprop((urowsM.view.loc (V d (cV L) (jV L)) ↦[Finset.univ]{fullShare} a) ∗ (irowsM.view.loc (V d (cV L) (jV L)) ↦[Finset.univ]{fullShare} b)
            ∗ (sumsM.view.loc (V d (cV L) (jV L)) ↦[Finset.univ]{fullShare} (sumsM.access (storeRect t)).write (Elt F) f (sumsAt a b t) Finset.univ)) : sProp 𝕄) := by
  unfold k0_t1_body
  simp only [k0_part1_eq_skeleton, k0_part2_eq_skeleton]
  unfold k0_part1_skel k0_part2_skel
  simp only [Prog.lift, Prog.bind_op, Prog.bind_ret, Prog.pure_eq_ret, Prog.bind_assoc]
  iintro ⟨Ha, Hb, Hs⟩
  iterate 16
    iapply (wp_assume 𝒱₀ (V d (cV L) (jV L)) none Set.univ (And.intro (words_in t _ (by decide)) (words_in t _ (by decide))))
    iapply (SparseCore.wp_vectorLoadIdx 𝒱₀ (V d (cV L) (jV L)) none Set.univ (base := urowsM) (S := Finset.univ) (q := fullShare) (f := a) (Finset.subset_univ _)) $$ Ha; iintro Ha
    iapply (SparseCore.wp_vectorLoadIdx 𝒱₀ (V d (cV L) (jV L)) none Set.univ (base := irowsM) (S := Finset.univ) (q := fullShare) (f := b) (Finset.subset_univ _)) $$ Hb; iintro Hb
  iapply (wp_load 𝒱₀ (V d (cV L) (jV L)) none Set.univ (m := sumsM) (S := Finset.univ) (Finset.subset_univ _)) $$ Hs; iintro Hs
  iapply (wp_store 𝒱₀ (V d (cV L) (jV L)) none Set.univ (m := sumsM) (r := storeRect t) (Mk := Finset.univ) (S := Finset.univ) (Finset.subset_univ _)) $$ Hs; iintro Hs
  rw [wp_ret]
  imodintro
  isplitl [Ha]; · iexact Ha
  isplitl [Hb]; · iexact Hb
  have total : ∀ w : S16.Idx → F .f32, w = sumsAt a b t →
      ((sumsM.view.loc (V d (cV L) (jV L)) ↦[Finset.univ]{fullShare} (sumsM.access (storeRect t)).write (Elt F) f w Finset.univ : sProp 𝕄)
        ⊢ (sumsM.view.loc (V d (cV L) (jV L)) ↦[Finset.univ]{fullShare} (sumsM.access (storeRect t)).write (Elt F) f (sumsAt a b t) Finset.univ)) :=
    fun w e => by rw [e]
  iapply (total _ ?sums) $$ Hs
  case sums =>
    have ra : (urowsM.access (Rect.whole S512x16)).read (Elt F) a = a := Memref.read_access_whole _ _ _
    have rb : (irowsM.access (Rect.whole S512x16)).read (Elt F) b = b := Memref.read_access_whole _ _ _
    simp only [column, ra, rb]
    funext x
    unfold k0_pay4 k0_pay3 k0_pay2 sumsAt dotAt dot
    rw [columns]
    rfl

set_option maxHeartbeats 4000000 in
/-- The loop: afterwards every sum is there. -/
theorem wp_sums (d : Fin nD) (L : grid0.Coords) (a b : S512x16.Idx → F .f32) (f : S512.Idx → F .f32) {α : Type} {Q : α → sProp 𝕄}
    {kont : Unit → Prog (TpuEff nD τ sig (Elt F) Λ₀ (V d (cV L) (jV L)).2) α} :
    iprop((urowsM.view.loc (V d (cV L) (jV L)) ↦[Finset.univ]{fullShare} a) ∗ (irowsM.view.loc (V d (cV L) (jV L)) ↦[Finset.univ]{fullShare} b)
        ∗ (sumsM.view.loc (V d (cV L) (jV L)) ↦[Finset.univ]{fullShare} f))
      ⊢ iprop((iprop((urowsM.view.loc (V d (cV L) (jV L)) ↦[Finset.univ]{fullShare} a) ∗ (irowsM.view.loc (V d (cV L) (jV L)) ↦[Finset.univ]{fullShare} b)
            ∗ (sumsM.view.loc (V d (cV L) (jV L)) ↦[Finset.univ]{fullShare} dotAt a b))
          -∗ wp frame (wpE (defs₀ (F := F)) 𝒱₀ (V d (cV L) (jV L)) none) Set.univ (kont ⟨⟩) Q)
        -∗ wp frame (wpE (defs₀ (F := F)) 𝒱₀ (V d (cV L) (jV L)) none) Set.univ
          (Scf.Loop.for k0_t1_loop k0_t1_ok ⟨⟩ (k0_t1_body L usersM (Memref.isWhole_whole _) itemsM (Memref.isWhole_whole _) utabM (Memref.isWhole_whole _) itabM (Memref.isWhole_whole _) outM (Memref.isWhole_whole _)
            ulistM (Memref.isWhole_whole _) ilistM (Memref.isWhole_whole _) urowsM (Memref.isWhole_whole _) irowsM (Memref.isWhole_whole _) sumsM (Memref.isWhole_whole _)
            cc0_scratch5 cc0_scoped0 cc0_scoped1 cc0_scoped2 lanes) >>= kont) Q) := by
  let I : ℕ → Unit → sProp 𝕄 := fun g _ => iprop((urowsM.view.loc (V d (cV L) (jV L)) ↦[Finset.univ]{fullShare} a)
    ∗ (irowsM.view.loc (V d (cV L) (jV L)) ↦[Finset.univ]{fullShare} b)
    ∗ ∃ f : S512.Idx → F .f32, ⌜∀ x : S512.Idx, (x 0).val < 16 * g → f x = dotAt a b x⌝ ∗ (sumsM.view.loc (V d (cV L) (jV L)) ↦[Finset.univ]{fullShare} f))
  have step : ∀ (t : Fin k0_t1_loop.trips) (acc : Unit), I t.val acc
      ⊢ wp frame (wpE (defs₀ (F := F)) 𝒱₀ (V d (cV L) (jV L)) none) Set.univ
          (k0_t1_body L usersM (Memref.isWhole_whole _) itemsM (Memref.isWhole_whole _) utabM (Memref.isWhole_whole _) itabM (Memref.isWhole_whole _) outM (Memref.isWhole_whole _)
            ulistM (Memref.isWhole_whole _) ilistM (Memref.isWhole_whole _) urowsM (Memref.isWhole_whole _) irowsM (Memref.isWhole_whole _) sumsM (Memref.isWhole_whole _)
            cc0_scratch5 cc0_scoped0 cc0_scoped1 cc0_scoped2 lanes t acc) (I (t.val + 1)) := fun t acc => by
    iintro ⟨Ha, Hb, %f, %hf, Hs⟩
    iapply (wp_wand_r (Idealize.ShloMosaic.frame) (wpE (defs₀ (F := F)) 𝒱₀ (V d (cV L) (jV L)) none) Set.univ)
    isplitl [Ha Hb Hs]
    · iapply (wp_trip d L a b f t)
      isplitl [Ha]; · iexact Ha
      isplitl [Hb]; · iexact Hb
      iexact Hs
    · iintro %u ⟨Ha, Hb, Hs⟩
      isplitl [Ha]; · iexact Ha
      isplitl [Hb]; · iexact Hb
      iexists _
      isplitr
      · ipureintro; exact store_extends a b t f hf
      · iexact Hs
  iintro ⟨Ha, Hb, Hs⟩ HK
  iapply (Scf.wp_for_bind frame (wpE (defs₀ (F := F)) 𝒱₀ (V d (cV L) (jV L)) none) Set.univ _ _ _ k0_t1_ok ⟨⟩ _ I step) $$ [Ha Hb Hs]
  · isplitl [Ha]; · iexact Ha
    isplitl [Hb]; · iexact Hb
    iexists f
    isplitr
    · ipureintro; intro x hx; exact absurd hx (by omega)
    · iexact Hs
  · iintro %u ⟨Ha, Hb, %f', %hf', Hs⟩
    iapply HK
    isplitl [Ha]; · iexact Ha
    isplitl [Hb]; · iexact Hb
    have e : f' = dotAt a b := funext fun x => hf' x (by
      have h1 : (x 0).val < 512 := (x 0).isLt
      have h2 := trips_eq
      show (x 0).val < 16 * k0_t1_loop.trips
      omega)
    rw [← e]
    iexact Hs

end Cert.Proof.KernelIdealRun

end
-- ==== Proof.KernelIdealTile.lean ====
/-
  One tile's task, for `KernelIdeal`, at a symbolic (SparseCore, subcore) pair: the two index fetches, the eight gathers
  and their eight waits, the loop and the write-out, with the value the tile's block of the result ends at.
-/
module

public import proofs.«01_k».proof.Proof.KernelIdealGathers
public import proofs.«01_k».proof.Proof.KernelIdealLoop

@[expose] public section

noncomputable section

namespace Cert.Proof.KernelIdealRun

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells)
open Idealize.ShloMosaic.Transfers (Batch)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the launch hands a tile -/

section Scoped

variable (d : Fin nD) (L : grid0.Coords)

abbrev cellU : GSem nD τ sig := (V d (cV L) (jV L), .dma cc0_scoped0.sem)
abbrev cellI : GSem nD τ sig := (V d (cV L) (jV L), .dma cc0_scoped1.sem)
abbrev cellO : GSem nD τ sig := (V d (cV L) (jV L), .dma cc0_scoped2.sem)
abbrev cellG : GSem nD τ sig := (V d (cV L) (jV L), .dma cc0_scratch5.sem)

/-- A subcore's semaphores are the four the task uses and the rest. -/
theorem ownSems0_V :
    (ownSems0 (V d (cV L) (jV L)) : sProp 𝕄)
      = iprop(semVal (cellG d L) 0 ∗ semVal (cellU d L) 0 ∗ semVal (cellI d L) 0 ∗ semVal (cellO d L) 0
          ∗ bigSep (((((ownCells (V d (cV L) (jV L))).erase (cellG d L)).erase (cellU d L)).erase (cellI d L)).erase (cellO d L)) fun g => semVal g 0) := by
  have mem : ∀ s : DmaSem sig, (SemLoc.dma s : SemLoc sig).isScoped .scVector = true →
      ((V d (cV L) (jV L), SemLoc.dma s) : GSem nD τ sig) ∈ ownCells (V d (cV L) (jV L)) := fun s h => mem_ownCells.mpr ⟨rfl, h⟩
  have ne : ∀ s s' : DmaSem sig, s ≠ s' → ((V d (cV L) (jV L), SemLoc.dma s) : GSem nD τ sig) ≠ (V d (cV L) (jV L), SemLoc.dma s') :=
    fun s s' h e => h (by simpa using congrArg Prod.snd e)
  unfold SparseCore.Cfg.ownSems0
  rw [SparseCore.bigSep_erase' (mem cc0_scratch5.sem (by decide)),
    SparseCore.bigSep_erase' (Finset.mem_erase.mpr ⟨ne cc0_scoped0.sem cc0_scratch5.sem (by decide), mem _ (by decide)⟩),
    SparseCore.bigSep_erase' (Finset.mem_erase.mpr ⟨ne cc0_scoped1.sem cc0_scoped0.sem (by decide),
      Finset.mem_erase.mpr ⟨ne cc0_scoped1.sem cc0_scratch5.sem (by decide), mem _ (by decide)⟩⟩),
    SparseCore.bigSep_erase' (Finset.mem_erase.mpr ⟨ne cc0_scoped2.sem cc0_scoped1.sem (by decide),
      Finset.mem_erase.mpr ⟨ne cc0_scoped2.sem cc0_scoped0.sem (by decide),
        Finset.mem_erase.mpr ⟨ne cc0_scoped2.sem cc0_scratch5.sem (by decide), mem _ (by decide)⟩⟩⟩)]

/-- A subcore's buffers are the five the task uses, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (Proc.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have mem : ∀ b : Ref sig .scVector, ((Proc.scVector (cV L) (jV L)).devRef b).owner = .proc (.scVector (cV L) (jV L)) →
      (Proc.scVector (cV L) (jV L)).devRef b ∈ ownRefs (τ := τ) (sig := sig) (.scVector (cV L) (jV L)) := fun b h => SparseCore.Cfg.mem_ownRefs_of_owner h
  have ne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (mem cc0_scratch0 rfl)).trans ?_
  rw [SparseCore.bigSep_erase' (Finset.mem_erase.mpr ⟨ne cc0_scratch1 cc0_scratch0 (by decide), mem _ rfl⟩),
    SparseCore.bigSep_erase' (Finset.mem_erase.mpr ⟨ne cc0_scratch2 cc0_scratch1 (by decide),
      Finset.mem_erase.mpr ⟨ne cc0_scratch2 cc0_scratch0 (by decide), mem _ rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), mem _ rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), mem _ rfl⟩⟩⟩⟩)]

end Scoped

/-- A family over four is its four members. -/
theorem bigSep_four (Φ : Fin 4 → sProp 𝕄) : bigSep Finset.univ Φ = iprop(Φ 0 ∗ Φ 1 ∗ Φ 2 ∗ Φ 3) := by
  rw [bigSep_univ_succ (m := 3), bigSep_univ_succ (m := 2), BI.bigSep_fin_two]; rfl

variable [FloatOps F]

/-- A tile's block of the result holds the sums of its own pairs. -/
theorem read_outBlock (L : grid0.Coords) (u i : S32x4x128.Idx → BitVec 32) (tu ti : S1000000x16.Idx → F .f32) :
    dotAt (rowsOf tu (listOf u (tileNo L))) (rowsOf ti (listOf i (tileNo L))) = (outBlock outM L).view.read (Elt F) (sumsOf u i tu ti) := by
  funext x
  obtain ⟨p, rfl⟩ : ∃ p : Fin 512, x = ix1 p := ⟨x 0, eq_ix1 x⟩
  have hr : (outBlock outM L).view.read (Elt F) (sumsOf u i tu ti) (ix1 p)
      = sumsOf u i tu ti ((Rect.unit (s := S16384) (k0_off3 L) S512.size (k0_off3_inb L)).emb (ix1 p)) := rfl
  have hp := p.isLt
  have e0 : k0_off3 L 0 = 1024 * (L 1).val + 512 * (L 0).val := congrFun (k0_off3_eq L) 0
  have ev : ((Rect.unit (s := S16384) (k0_off3 L) S512.size (k0_off3_inb L)).emb (ix1 p) 0).val = 512 * (tileNo L).val + p.val := by
    rw [Rect.emb_apply]
    show k0_off3 L 0 + 1 * p.val = 512 * (2 * (L 1).val + (L 0).val) + p.val
    omega
  rw [hr]
  unfold sumsOf
  have eo : ownerOf ((Rect.unit (s := S16384) (k0_off3 L) S512.size (k0_off3_inb L)).emb (ix1 p) 0) = tileNo L := Fin.ext (by
    show ((Rect.unit (s := S16384) (k0_off3 L) S512.size (k0_off3_inb L)).emb (ix1 p) 0).val / 512 = _
    rw [ev]; omega)
  have ei : inTile ((Rect.unit (s := S16384) (k0_off3 L) S512.size (k0_off3_inb L)).emb (ix1 p) 0) = p := Fin.ext (by
    show ((Rect.unit (s := S16384) (k0_off3 L) S512.size (k0_off3_inb L)).emb (ix1 p) 0).val % 512 = _
    rw [ev]; omega)
  rw [eo, ei]

omit [FloatOps F] in
/-- A buffer held, spelled through a memref. -/
theorem seen {d : Fin nD} {i : Fin τ.nSC} {j : Fin τ.nSub} {sp : Space} {sh : Shape} {e : EltTy} (M : Memref sig (V d i j).2.kind sp sh e)
    {q : PosShare TreeShare} (f : Buf (Elt F) (M.view.loc (V d i j))) :
    (M.view.loc (V d i j) ↦{q} f : sProp 𝕄) ⊢ (M.view.loc (V d i j) ↦{q} f : sProp 𝕄) := .rfl

omit [FloatOps F] in
/-- A view's elements held, spelled through its memref. -/
theorem seen_set {d : Fin nD} {i : Fin τ.nSC} {j : Fin τ.nSub} {sp : Space} {sh : Shape} {e : EltTy} (M : Memref sig (V d i j).2.kind sp sh e)
    {q : PosShare TreeShare} (f : Buf (Elt F) (M.view.loc (V d i j))) :
    (M.view.loc (V d i j) ↦[M.view.set]{q} f : sProp 𝕄) ⊢ (M.view.loc (V d i j) ↦[M.view.set]{q} f : sProp 𝕄) := .rfl

omit [FloatOps F] in
/-- A tile's block of the result written with what `g` reads holds `g` there. -/
theorem landed_out {d : Fin nD} (L : grid0.Coords) (f g : Buf (Elt F) (outM.view.loc (V d (cV L) (jV L)))) (w : S512.Idx → F .f32)
    (hw : w = (outBlock outM L).view.read (Elt F) g) :
    ((outBlock outM L).view.loc (V d (cV L) (jV L)) ↦[(outBlock outM L).view.set]{fullShare}
        (outBlock outM L).view.writes (Elt F) f [⟨Rect.whole (Rect.unit (s := S16384) (k0_off3 L) S512.size (k0_off3_inb L)).shape, w⟩] : sProp 𝕄)
      ⊢ ((outBlock outM L).view.loc (V d (cV L) (jV L)) ↦[(outBlock outM L).view.set]{fullShare} g : sProp 𝕄) := by
  have e := View.write_univ_eq_writes_whole (Val := Elt F) (outBlock outM L).view f [] w
  rw [View.writes_nil] at e
  refine Entails.trans (Entails.of_eq (congrArg _ e.symm)) ?_
  exact Entails.of_eq (Windows.pointsTo_write_read (Ix := HIx 1) (Name := ℕ) (U := UU) (Lvl := ℕ) (c := V d (cV L) (jV L)) (outBlock outM L).view fullShare f g w hw)

omit [FloatOps F] in
/-- A whole buffer held is its view's elements held. -/
theorem whole_set {d : Fin nD} {i : Fin τ.nSC} {j : Fin τ.nSub} {sp : Space} {sh : Shape} {e : EltTy} (M : Memref sig (V d i j).2.kind sp sh e)
    {q : PosShare TreeShare} (f : Buf (Elt F) (M.view.loc (V d i j))) (h : M.view.set = Finset.univ) :
    (M.view.loc (V d i j) ↦{q} f : sProp 𝕄) ⊢ (M.view.loc (V d i j) ↦[M.view.set]{q} f : sProp 𝕄) := by
  rw [h]

omit [FloatOps F] in
/-- A view's elements held are its whole buffer held. -/
theorem set_whole {d : Fin nD} {i : Fin τ.nSC} {j : Fin τ.nSub} {sp : Space} {sh : Shape} {e : EltTy} (M : Memref sig (V d i j).2.kind sp sh e)
    {q : PosShare TreeShare} (f : Buf (Elt F) (M.view.loc (V d i j))) (h : M.view.set = Finset.univ) :
    (M.view.loc (V d i j) ↦[M.view.set]{q} f : sProp 𝕄) ⊢ (M.view.loc (V d i j) ↦{q} f : sProp 𝕄) := by
  rw [h]

/-- One gather's destination is worth 128 rows on the semaphore. -/
theorem chunk_credit (M : RowBuf) (k : Fin 4) : (chunk M k).view.dmaCredit = 128 * rowCredit := rfl

omit [FloatOps F] in
/-- An index list written whole with what `g` reads holds `g`. -/
theorem landed {d : Fin nD} {i : Fin τ.nSC} {j : Fin τ.nSub} (N : List4) (f g : Buf (Elt F) (N.view.loc (V d i j))) (w : S4x128.Idx → Elt F .i32)
    (hw : w = N.view.read (Elt F) g) (hN : N.view.set = Finset.univ) :
    (N.view.loc (V d i j) ↦{fullShare} N.view.write (Elt F) f w Finset.univ : sProp 𝕄) ⊢ (N.view.loc (V d i j) ↦[N.view.set]{fullShare} g : sProp 𝕄) := by
  have e := Windows.pointsTo_write_read (Ix := HIx 1) (Name := ℕ) (U := UU) (Lvl := ℕ) (c := V d i j) N.view fullShare f g w hw
  rw [hN] at e ⊢
  exact Entails.of_eq e

set_option maxHeartbeats 40000000 in
/-- THE TASK of tile `L`: from shares of the index arrays and the tables and its block of the result, to the same with
    the block at the sums. -/
theorem tile_body (d : Fin nD) (L : grid0.Coords) (hF : (K (F := F)).Facts) (O : CellTallies nD τ sig (HIx 1)) (W : Waits sig (HIx 1)) (hO : ∀ g, O g none = 0)
    (q : PosShare TreeShare) (u : Buf (Elt F) (usersM.view.loc (V d (cV L) (jV L)))) (i : Buf (Elt F) (itemsM.view.loc (V d (cV L) (jV L))))
    (tu : Buf (Elt F) (utabM.view.loc (V d (cV L) (jV L)))) (ti : Buf (Elt F) (itabM.view.loc (V d (cV L) (jV L))))
    (o : Buf (Elt F) (outM.view.loc (V d (cV L) (jV L))))
    (hu : ∀ x : S32x4x128.Idx, BitVec.toNat (u x) < 1000000) (hi : ∀ x : S32x4x128.Idx, BitVec.toNat (i x) < 1000000) :
    iprop(levAts (K (F := F)).L (K (F := F)).lev
        ∗ ((usersM.view.loc (V d (cV L) (jV L)) ↦[Finset.univ]{q} u) ∗ (itemsM.view.loc (V d (cV L) (jV L)) ↦[Finset.univ]{q} i)
          ∗ (utabM.view.loc (V d (cV L) (jV L)) ↦[Finset.univ]{q} tu) ∗ (itabM.view.loc (V d (cV L) (jV L)) ↦[Finset.univ]{q} ti)
          ∗ ((outBlock outM L).view.loc (V d (cV L) (jV L)) ↦[(outBlock outM L).view.set]{fullShare} o))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L usersM (Memref.isWhole_whole _) itemsM (Memref.isWhole_whole _) utabM (Memref.isWhole_whole _) itabM (Memref.isWhole_whole _) outM (Memref.isWhole_whole _)
            ulistM (Memref.isWhole_whole _) ilistM (Memref.isWhole_whole _) urowsM (Memref.isWhole_whole _) irowsM (Memref.isWhole_whole _) sumsM (Memref.isWhole_whole _)
            cc0_scratch5 cc0_scoped0 cc0_scoped1 cc0_scoped2)
          fun _ => (iprop(((usersM.view.loc (V d (cV L) (jV L)) ↦[Finset.univ]{q} u) ∗ (itemsM.view.loc (V d (cV L) (jV L)) ↦[Finset.univ]{q} i)
              ∗ (utabM.view.loc (V d (cV L) (jV L)) ↦[Finset.univ]{q} tu) ∗ (itabM.view.loc (V d (cV L) (jV L)) ↦[Finset.univ]{q} ti)
              ∗ ((outBlock outM L).view.loc (V d (cV L) (jV L)) ↦[(outBlock outM L).view.set]{fullShare} sumsOf u i tu ti))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0_sc_kernel_eq_skeleton]; unfold cc0_sc_kernel_skel
  simp only [k0_part3_eq_skeleton, k0_part4_eq_skeleton, k0_part5_eq_skeleton]
  unfold k0_part3_skel k0_part4_skel k0_part5_skel SparseCore.waitIndirectGather
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, ⟨Hu, Hi, Htu, Hti, Ho⟩, ⟨⟨%l1, Hl1⟩, ⟨%l2, Hl2⟩, ⟨%r1, Hr1⟩, ⟨%r2, Hr2⟩, ⟨%s, Hs⟩, Hbufs⟩, ⟨HsemG, HsemU, HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu := (seen (d := d) (i := cV L) (j := jV L) (Memref.whole main_v0_scv : IdxArr) u) $$ Hu
  ihave Hi := (seen (d := d) (i := cV L) (j := jV L) (Memref.whole main_v1_scv : IdxArr) i) $$ Hi
  ihave Hl1 := (seen (d := d) (i := cV L) (j := jV L) (Memref.whole cc0_scratch0 : List4) l1) $$ Hl1
  ihave Hl2 := (seen (d := d) (i := cV L) (j := jV L) (Memref.whole cc0_scratch1 : List4) l2) $$ Hl2
  sl_exec
  ihave Hl1 := (landed ulistM l1 (listOf u (tileNo L)) _ ?fetchU (View.set_whole _)) $$ Hl1
  case fetchU => exact (read_idxRow usersM L u).trans rfl
  ihave Hl2 := (landed ilistM l2 (listOf i (tileNo L)) _ ?fetchI (View.set_whole _)) $$ Hl2
  case fetchI => exact (read_idxRow itemsM L i).trans rfl
  have hlu : ∀ x, (ulistM.view.read (Elt F) (listOf u (tileNo L)) x).toNat < 1000000 := fun x => hu _
  have hli : ∀ x, (ilistM.view.read (Elt F) (listOf i (tileNo L)) x).toNat < 1000000 := fun x => hi _
  ihave Hl1 := (Entails.of_eq ((list_lines (c := V d (cV L) (jV L)) ulistM fullShare (listOf u (tileNo L))).trans (bigSep_four _))) $$ Hl1
  ihave Hl2 := (Entails.of_eq ((list_lines (c := V d (cV L) (jV L)) ilistM fullShare (listOf i (tileNo L))).trans (bigSep_four _))) $$ Hl2
  ihave Hr1 := (Entails.of_eq ((rowBuf_chunks (c := V d (cV L) (jV L)) urowsM fullShare r1).trans (bigSep_four _))) $$ [Hr1]
  · iapply (whole_set urowsM r1 (View.set_whole _)); iexact Hr1
  ihave Hr2 := (Entails.of_eq ((rowBuf_chunks (c := V d (cV L) (jV L)) irowsM fullShare r2).trans (bigSep_four _))) $$ [Hr2]
  · iapply (whole_set irowsM r2 (View.set_whole _)); iexact Hr2
  ihave Htu := (Entails.of_eq ((table_pieces (d := d) (i := cV L) (j := jV L) utabM q tu).trans (bigSep_four _))) $$ [Htu]
  · iapply (whole_set utabM tu (View.set_whole _)); iexact Htu
  ihave Hti := (Entails.of_eq ((table_pieces (d := d) (i := cV L) (j := jV L) itabM q ti).trans (bigSep_four _))) $$ [Hti]
  · iapply (whole_set itabM ti (View.set_whole _)); iexact Hti
  icases Hl1 with ⟨Hl10, Hl11, Hl12, Hl13⟩
  icases Hl2 with ⟨Hl20, Hl21, Hl22, Hl23⟩
  icases Hr1 with ⟨Hr10, Hr11, Hr12, Hr13⟩
  icases Hr2 with ⟨Hr20, Hr21, Hr22, Hr23⟩
  icases Htu with ⟨Htu0, Htu1, Htu2, Htu3⟩
  icases Hti with ⟨Hti0, Hti1, Hti2, Hti3⟩
  have halloc : (semVal (cellG d L) 0 : sProp 𝕄) ⊢ |={Set.univ}=> Batch countersEmb (V d (cV L) (jV L)) (.dma cc0_scratch5.sem) (default : HIx 1) rowCredit
      (delivered (brings (i := cV L) (j := jV L) utabM urowsM ulistM q tu r1 (listOf u (tileNo L)) hlu)
        (brings (i := cV L) (j := jV L) itabM irowsM ilistM q ti r2 (listOf i (tileNo L)) hli)) 0 0 :=
    Transfers.batch_alloc' countersEmb (V d (cV L) (jV L)) (default : HIx 1) rowCredit _
  imod halloc $$ HsemG with HB
  iapply (wp_gather 𝒱₀ none utabM urowsM ulistM q tu r1 (listOf u (tileNo L)) hlu 0 0 128 rfl (by decide) (delivered_user _ _ 0 0 (by decide) rfl)) $$ [Htu0 Hr10 Hl10 HB]
  · isplitl [Htu0]; · iexact Htu0
    isplitl [Hr10]; · iexact Hr10
    isplitl [Hl10]; · iexact Hl10
    iexact HB
  iintro HB
  iapply (wp_gather 𝒱₀ none itabM irowsM ilistM q ti r2 (listOf i (tileNo L)) hli 0 128 256 rfl (by decide) (delivered_item _ _ 0 128 (by decide) rfl)) $$ [Hti0 Hr20 Hl20 HB]
  · isplitl [Hti0]; · iexact Hti0
    isplitl [Hr20]; · iexact Hr20
    isplitl [Hl20]; · iexact Hl20
    iexact HB
  iintro HB
  iapply (wp_gather 𝒱₀ none utabM urowsM ulistM q tu r1 (listOf u (tileNo L)) hlu 1 256 384 rfl (by decide) (delivered_user _ _ 1 256 (by decide) rfl)) $$ [Htu1 Hr11 Hl11 HB]
  · isplitl [Htu1]; · iexact Htu1
    isplitl [Hr11]; · iexact Hr11
    isplitl [Hl11]; · iexact Hl11
    iexact HB
  iintro HB
  iapply (wp_gather 𝒱₀ none itabM irowsM ilistM q ti r2 (listOf i (tileNo L)) hli 1 384 512 rfl (by decide) (delivered_item _ _ 1 384 (by decide) rfl)) $$ [Hti1 Hr21 Hl21 HB]
  · isplitl [Hti1]; · iexact Hti1
    isplitl [Hr21]; · iexact Hr21
    isplitl [Hl21]; · iexact Hl21
    iexact HB
  iintro HB
  iapply (wp_gather 𝒱₀ none utabM urowsM ulistM q tu r1 (listOf u (tileNo L)) hlu 2 512 640 rfl (by decide) (delivered_user _ _ 2 512 (by decide) rfl)) $$ [Htu2 Hr12 Hl12 HB]
  · isplitl [Htu2]; · iexact Htu2
    isplitl [Hr12]; · iexact Hr12
    isplitl [Hl12]; · iexact Hl12
    iexact HB
  iintro HB
  iapply (wp_gather 𝒱₀ none itabM irowsM ilistM q ti r2 (listOf i (tileNo L)) hli 2 640 768 rfl (by decide) (delivered_item _ _ 2 640 (by decide) rfl)) $$ [Hti2 Hr22 Hl22 HB]
  · isplitl [Hti2]; · iexact Hti2
    isplitl [Hr22]; · iexact Hr22
    isplitl [Hl22]; · iexact Hl22
    iexact HB
  iintro HB
  iapply (wp_gather 𝒱₀ none utabM urowsM ulistM q tu r1 (listOf u (tileNo L)) hlu 3 768 896 rfl (by decide) (delivered_user _ _ 3 768 (by decide) rfl)) $$ [Htu3 Hr13 Hl13 HB]
  · isplitl [Htu3]; · iexact Htu3
    isplitl [Hr13]; · iexact Hr13
    isplitl [Hl13]; · iexact Hl13
    iexact HB
  iintro HB
  iapply (wp_gather 𝒱₀ none itabM irowsM ilistM q ti r2 (listOf i (tileNo L)) hli 3 896 1024 rfl (by decide) (delivered_item _ _ 3 896 (by decide) rfl)) $$ [Hti3 Hr23 Hl23 HB]
  · isplitl [Hti3]; · iexact Hti3
    isplitl [Hr23]; · iexact Hr23
    isplitl [Hl23]; · iexact Hl23
    iexact HB
  iintro HB
  iapply (Transfers.wp_waitBatchMulO countersEmb 𝒱₀ (V d (cV L) (jV L)) none (default : HIx 1) (N := rowCredit) (n := 1024) (j := 1024) (u := 0) 128 (chunk_credit urowsM 0) (by decide)) $$ [HB HO]
  · isplitl [HB]; · iexact HB
    isplitl [HO]; · iexact HO
    iapply (Transfers.MayWaits.elim (SemLoc.dma cc0_scratch5.sem)) $$ Hmw
  iintro ⟨HB, HO⟩
  iapply (Transfers.wp_waitBatchMulO countersEmb 𝒱₀ (V d (cV L) (jV L)) none (default : HIx 1) (N := rowCredit) (n := 1024) (j := 1024) (u := 65536) 128 (chunk_credit irowsM 0) (by decide)) $$ [HB HO]
  · isplitl [HB]; · iexact HB
    isplitl [HO]; · iexact HO
    iapply (Transfers.MayWaits.elim (SemLoc.dma cc0_scratch5.sem)) $$ Hmw
  iintro ⟨HB, HO⟩
  iapply (Transfers.wp_waitBatchMulO countersEmb 𝒱₀ (V d (cV L) (jV L)) none (default : HIx 1) (N := rowCredit) (n := 1024) (j := 1024) (u := 131072) 128 (chunk_credit urowsM 1) (by decide)) $$ [HB HO]
  · isplitl [HB]; · iexact HB
    isplitl [HO]; · iexact HO
    iapply (Transfers.MayWaits.elim (SemLoc.dma cc0_scratch5.sem)) $$ Hmw
  iintro ⟨HB, HO⟩
  iapply (Transfers.wp_waitBatchMulO countersEmb 𝒱₀ (V d (cV L) (jV L)) none (default : HIx 1) (N := rowCredit) (n := 1024) (j := 1024) (u := 196608) 128 (chunk_credit irowsM 1) (by decide)) $$ [HB HO]
  · isplitl [HB]; · iexact HB
    isplitl [HO]; · iexact HO
    iapply (Transfers.MayWaits.elim (SemLoc.dma cc0_scratch5.sem)) $$ Hmw
  iintro ⟨HB, HO⟩
  iapply (Transfers.wp_waitBatchMulO countersEmb 𝒱₀ (V d (cV L) (jV L)) none (default : HIx 1) (N := rowCredit) (n := 1024) (j := 1024) (u := 262144) 128 (chunk_credit urowsM 2) (by decide)) $$ [HB HO]
  · isplitl [HB]; · iexact HB
    isplitl [HO]; · iexact HO
    iapply (Transfers.MayWaits.elim (SemLoc.dma cc0_scratch5.sem)) $$ Hmw
  iintro ⟨HB, HO⟩
  iapply (Transfers.wp_waitBatchMulO countersEmb 𝒱₀ (V d (cV L) (jV L)) none (default : HIx 1) (N := rowCredit) (n := 1024) (j := 1024) (u := 327680) 128 (chunk_credit irowsM 2) (by decide)) $$ [HB HO]
  · isplitl [HB]; · iexact HB
    isplitl [HO]; · iexact HO
    iapply (Transfers.MayWaits.elim (SemLoc.dma cc0_scratch5.sem)) $$ Hmw
  iintro ⟨HB, HO⟩
  iapply (Transfers.wp_waitBatchMulO countersEmb 𝒱₀ (V d (cV L) (jV L)) none (default : HIx 1) (N := rowCredit) (n := 1024) (j := 1024) (u := 393216) 128 (chunk_credit urowsM 3) (by decide)) $$ [HB HO]
  · isplitl [HB]; · iexact HB
    isplitl [HO]; · iexact HO
    iapply (Transfers.MayWaits.elim (SemLoc.dma cc0_scratch5.sem)) $$ Hmw
  iintro ⟨HB, HO⟩
  iapply (Transfers.wp_waitBatchAllO countersEmb 𝒱₀ (V d (cV L) (jV L)) none (default : HIx 1) (N := rowCredit) (n := 1024) (u := 458752) (J := 128 * rowCredit) (chunk_credit irowsM 3) (by decide) (by decide)) $$ [HB HO]
  · isplitl [HB]; · iexact HB
    isplitl [HO]; · iexact HO
    iapply (Transfers.MayWaits.elim (SemLoc.dma cc0_scratch5.sem)) $$ Hmw
  iintro ⟨HB, HsemG, HO⟩
  ihave HB := (delivered_all _ _) $$ HB
  icases HB with ⟨HBu, HBi⟩
  ihave HBu := (brings_all utabM urowsM ulistM q tu r1 (rowsOf tu (listOf u (tileNo L))) (listOf u (tileNo L)) hlu rfl) $$ HBu
  ihave HBi := (brings_all itabM irowsM ilistM q ti r2 (rowsOf ti (listOf i (tileNo L))) (listOf i (tileNo L)) hli rfl) $$ HBi
  icases HBu with ⟨Hr1, Hl1, Htu⟩
  icases HBi with ⟨Hr2, Hl2, Hti⟩
  ihave Hr1 := (set_whole urowsM _ (View.set_whole _)) $$ Hr1
  ihave Hr2 := (set_whole irowsM _ (View.set_whole _)) $$ Hr2
  ihave Hl1 := (set_whole ulistM _ (View.set_whole _)) $$ Hl1
  ihave Hl2 := (set_whole ilistM _ (View.set_whole _)) $$ Hl2
  ihave Htu := (set_whole utabM _ (View.set_whole _)) $$ Htu
  ihave Hti := (set_whole itabM _ (View.set_whole _)) $$ Hti
  iapply (wp_sums d L (rowsOf tu (listOf u (tileNo L))) (rowsOf ti (listOf i (tileNo L))) s) $$ [Hr1 Hr2 Hs]
  · isplitl [Hr1]; · iexact Hr1
    isplitl [Hr2]; · iexact Hr2
    iexact Hs
  iintro ⟨Hr1, Hr2, Hs⟩
  ihave Hs := (seen (d := d) (i := cV L) (j := jV L) (Memref.whole cc0_scratch4 : SumBuf) _) $$ Hs
  ihave Ho := (seen_set (d := d) (i := cV L) (j := jV L) ((Memref.whole main_v2_scv : OutArr).slice (Rect.unit (s := S16384) (k0_off3 L) S512.size (k0_off3_inb L)) (fun _ => rfl)) _) $$ Ho
  sl_exec
  sl_step
  ihave Ho := (landed_out (d := d) L o (sumsOf u i tu ti) _ ?sums) $$ Ho
  case sums => exact read_outBlock L u i tu ti
  isplitl [Hu Hi Htu Hti Ho]
  · isplitl [Hu]; · iexact Hu
    isplitl [Hi]; · iexact Hi
    isplitl [Htu]; · iexact Htu
    isplitl [Hti]; · iexact Hti
    iexact Ho
  isplitl [Hl1 Hl2 Hr1 Hr2 Hs Hbufs]
  · isplitl [Hl1]; · iexists _; iexact Hl1
    isplitl [Hl2]; · iexists _; iexact Hl2
    isplitl [Hr1]; · iexists _; iexact Hr1
    isplitl [Hr2]; · iexists _; iexact Hr2
    isplitl [Hs]; · iexists _; iexact Hs
    iexact Hbufs
  isplitl [HsemG HsemU HsemI HsemO Hsems]
  · isplitl [HsemG]; · iexact HsemG
    isplitl [HsemU]; · iexact HsemU
    isplitl [HsemI]; · iexact HsemI
    isplitl [HsemO]; · iexact HsemO
    iexact Hsems
  iexists _; isplitr
  swap; · iexact HO
  ipureintro; intro p hp
  simp only [Finset.mem_insert] at hp
  rcases hp with hp | hp | hp | hp | hp | hp | hp | hp | hp | hp | hp | hp <;> first | exact .inl hp | exact .inr (hp ▸ rfl)

end Cert.Proof.KernelIdealRun

end
-- ==== Proof.KernelIdealLaunch.lean ====
/-
  The launch, for `KernelIdeal`: what the one SparseCore call hands the thirty-two tiles and takes back, @main around it,
  and the run of the whole program with the values of its two results.
-/
module

public import proofs.«01_k».proof.Proof.KernelIdealTile

@[expose] public section

noncomputable section

namespace Cert.Proof.KernelIdealRun

open Cert.KernelIdeal Cert.KernelIdeal.Gen

open Idealize.ShloMosaic
open Idealize.ShloMosaic.ValueIdx
open Idealize.ShloMosaic.StableHlo (held)
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## @main's arrays -/

abbrev usersLoc (d : Dev nD) : Loc nD τ sig := (SparseCore.T d).loc main_arg0
abbrev itemsLoc (d : Dev nD) : Loc nD τ sig := (SparseCore.T d).loc main_arg1
abbrev utabLoc (d : Dev nD) : Loc nD τ sig := (SparseCore.T d).loc main_arg2
abbrev itabLoc (d : Dev nD) : Loc nD τ sig := (SparseCore.T d).loc main_arg3
abbrev ubiasLoc (d : Dev nD) : Loc nD τ sig := (SparseCore.T d).loc main_arg4
abbrev ibiasLoc (d : Dev nD) : Loc nD τ sig := (SparseCore.T d).loc main_arg5
abbrev ublockLoc (d : Dev nD) : Loc nD τ sig := (SparseCore.T d).loc main_v0
abbrev iblockLoc (d : Dev nD) : Loc nD τ sig := (SparseCore.T d).loc main_v1
abbrev outLoc (d : Dev nD) : Loc nD τ sig := (SparseCore.T d).loc main_v2
abbrev lossLoc (d : Dev nD) : Loc nD τ sig := (SparseCore.T d).loc main_cst

/-! ## The result's blocks, and who gets which -/

theorem blockRect_inb (w : Fin 32) : ∀ a, (![512 * w.val] : Fin 1 → Nat) a + S512.size a ≤ S16384.size a := by
  have := w.isLt; intro a; match a with
  | 0 => show 512 * w.val + 512 ≤ 16384; omega

/-- Elements `512 w, …, 512 w + 511` of the result. -/
abbrev blockRect (w : Fin 32) : Rect S16384 := Rect.unit (s := S16384) ![512 * w.val] S512.size (blockRect_inb w)
abbrev blockSet (w : Fin 32) : Finset S16384.Idx := (outM.view.slice (blockRect w)).set

theorem block_cover (x : S16384.Idx) : ∃ w, x ∈ (blockRect w).set := by
  have h : (x 0).val < 16384 := (x 0).isLt
  refine ⟨⟨(x 0).val / 512, by omega⟩, Rect.mem_set_unit.mpr fun a => ?_⟩
  match a with
  | 0 => exact ⟨by show 512 * ((x 0).val / 512) ≤ (x 0).val; omega, by show (x 0).val < 512 * ((x 0).val / 512) + 512; omega⟩

theorem block_unique (x : S16384.Idx) (v w : Fin 32) (hv : x ∈ (blockRect v).set) (hw : x ∈ (blockRect w).set) : v = w := by
  have h1 := Rect.mem_set_unit.mp hv 0
  have h2 := Rect.mem_set_unit.mp hw 0
  have a1 : 512 * v.val ≤ (x 0).val ∧ (x 0).val < 512 * v.val + 512 := h1
  have a2 : 512 * w.val ≤ (x 0).val ∧ (x 0).val < 512 * w.val + 512 := h2
  exact Fin.ext (by omega)

/-- The tile's block as it addresses it is the block of its number. -/
theorem outBlock_set (L : grid0.Coords) : (outBlock outM L).view.set = blockSet (tileNo L) := by
  have e : k0_off3 L = ![512 * (tileNo L).val] := by
    rw [k0_off3_eq]
    have : 1024 * (L 1).val + 512 * (L 0).val = 512 * (tileNo L).val := by
      show _ = 512 * (2 * (L 1).val + (L 0).val); omega
    rw [this]
  have r : ∀ (o : Fin 1 → ℕ) (h : ∀ a, o a + S512.size a ≤ S16384.size a), o = ![512 * (tileNo L).val] →
      Rect.unit (s := S16384) o S512.size h = blockRect (tileNo L) := fun o h e => by subst e; rfl
  show (outM.view.slice (Rect.unit (s := S16384) (k0_off3 L) S512.size (k0_off3_inb L))).set = _
  rw [r _ _ e]

/-- The tile on SparseCore `c`'s subcore `s`. -/
abbrev coordsOf (c : Fin (grid0.bound 0)) (s : Fin (grid0.bound 1)) : grid0.Coords :=
  fun | 0 => c | 1 => s | ⟨_ + 2, h⟩ => absurd h (Nat.not_lt.2 (Nat.le_add_left _ _))

/-- The tiles, SparseCore by SparseCore. -/
def tiles : Fin 2 × Fin 16 ≃ Fin 32 := (Equiv.prodComm (Fin 2) (Fin 16)).trans finProdFinEquiv

theorem tiles_eq (c : Fin 2) (s : Fin 16) : tiles (c, s) = tileNo (coordsOf c s) := Fin.ext (by
  show c.val + 2 * s.val = 2 * s.val + c.val
  omega)

theorem nCore_zero : (K (F := F)).nCore 0 = 2 := rfl
theorem nSub_zero : (K (F := F)).nSub 0 = 16 := rfl

/-- A family over the thirty-two tiles is the two SparseCores' families over sixteen. -/
theorem bigSep_tiles (Φ : Fin 32 → sProp 𝕄) :
    bigSep Finset.univ Φ = bigSep Finset.univ fun c : Fin 2 => bigSep Finset.univ fun s : Fin 16 => Φ (tileNo (coordsOf c s)) := by
  rw [bigSep_univ_equiv tiles Φ, bigSep_univ_prod]
  exact BI.bigSep_congr fun c _ => BI.bigSep_congr fun s _ => congrArg Φ (tiles_eq c s)

theorem tiles_pos : 0 < 32 := by decide
/-- Tile `w`'s share of an array all tiles read. -/
abbrev share (w : Fin 32) : PosShare TreeShare := pieceOf fullShare 32 tiles_pos w

variable (m : (ℓ : Loc nD τ sig) → Buf (Elt F) ℓ) (ρ : Dev nD → PrngReg)

/-- The user indices and the item indices as the call gets them: one row of 4 × 128 per tile. -/
def usersIn (d : Dev nD) : S32x4x128.Idx → BitVec 32 := shapeCast S32x4x128 (m (usersLoc d)) shapeCasts_S16384_S32x4x128
def itemsIn (d : Dev nD) : S32x4x128.Idx → BitVec 32 := shapeCast S32x4x128 (m (itemsLoc d)) shapeCasts_S16384_S32x4x128

/-- What the proof asks of the launch memory: every index names a row of its table. -/
def PreOK : Prop := ∀ (d : Dev nD) (j : S16384.Idx), BitVec.toNat (m (usersLoc d) j) < 1000000 ∧ BitVec.toNat (m (itemsLoc d) j) < 1000000

variable [FloatOps F]

/-- What the call leaves in the result. -/
def sums (d : Dev nD) : S16384.Idx → F .f32 := sumsOf (usersIn m d) (itemsIn m d) (m (utabLoc d)) (m (itabLoc d))

/-! ## What the handshakes carry -/

/-- Tile `w`'s shares of the four arrays it reads. -/
abbrev reads (d : Dev nD) (q : PosShare TreeShare) : sProp 𝕄 :=
  iprop((ublockLoc d ↦{q} usersIn m d) ∗ (iblockLoc d ↦{q} itemsIn m d) ∗ (utabLoc d ↦{q} m (utabLoc d)) ∗ (itabLoc d ↦{q} m (itabLoc d)))
/-- Tile `w`'s pieces, its block of the result at `f`. -/
abbrev piece (d : Dev nD) (f : Buf (Elt F) (outLoc d)) (w : Fin 32) : sProp 𝕄 :=
  iprop(reads m d (share w) ∗ (outLoc d ↦[blockSet w]{fullShare} f))

/-- The tile's number, from the launch's own indices of SparseCore and subcore. -/
abbrev numberOf (c : Fin ((K (F := F)).nCore 0)) (s : Fin ((K (F := F)).nSub 0)) : Fin 32 := tileNo (coordsOf (Fin.cast nCore_zero c) (Fin.cast nSub_zero s))

/-- Each SparseCore takes its sixteen tiles' pieces and brings them back, the blocks at the sums; each tile its own. -/
def P : (K (F := F)).Pay (nD := nD) (Val := Elt F) (Name := ℕ) (U := UU) where
  st := fun q d c => match q with | 0 => bigSep Finset.univ fun s : Fin ((K (F := F)).nSub 0) => piece m d (m (outLoc d)) (numberOf c s)
  dn := fun q d c => match q with | 0 => bigSep Finset.univ fun s : Fin ((K (F := F)).nSub 0) => piece m d (sums m d) (numberOf c s)
  go := fun q d c s => match q with | 0 => piece m d (m (outLoc d)) (numberOf c s)
  td := fun q d c s => match q with | 0 => piece m d (sums m d) (numberOf c s)
  x := fun _ _ => iprop(emp)

instance P_storable : (P (F := F) m).IsStorable where
  st q d c := match q with
    | 0 => (inferInstance : BI.Storable (upEmb : UEmb _ 𝕄) (bigSep Finset.univ fun s : Fin ((K (F := F)).nSub 0) => piece m d (m (outLoc d)) (numberOf c s)))
  dn q d c := match q with
    | 0 => (inferInstance : BI.Storable (upEmb : UEmb _ 𝕄) (bigSep Finset.univ fun s : Fin ((K (F := F)).nSub 0) => piece m d (sums m d) (numberOf c s)))
  go q d c s := match q with
    | 0 => (inferInstance : BI.Storable (upEmb : UEmb _ 𝕄) (piece m d (m (outLoc d)) (numberOf c s)))
  td q d c s := match q with
    | 0 => (inferInstance : BI.Storable (upEmb : UEmb _ 𝕄) (piece m d (sums m d) (numberOf c s)))

/-- A tile's pieces as its task spells them. -/
theorem piece_eq (d : Dev nD) (L : grid0.Coords) (f : Buf (Elt F) (outLoc d)) :
    piece m d f (tileNo L)
      = (iprop(((usersM.view.loc (V d (cV L) (jV L)) ↦[Finset.univ]{share (tileNo L)} usersIn m d) ∗ (itemsM.view.loc (V d (cV L) (jV L)) ↦[Finset.univ]{share (tileNo L)} itemsIn m d)
          ∗ (utabM.view.loc (V d (cV L) (jV L)) ↦[Finset.univ]{share (tileNo L)} m (utabLoc d)) ∗ (itabM.view.loc (V d (cV L) (jV L)) ↦[Finset.univ]{share (tileNo L)} m (itabLoc d)))
          ∗ ((outBlock outM L).view.loc (V d (cV L) (jV L)) ↦[(outBlock outM L).view.set]{fullShare} f)) : sProp 𝕄) := by
  rw [outBlock_set]

/-! ## The task's obligation -/

theorem defs₀_vector (c : Fin τ.nSC) (s : Fin τ.nSub) :
    defs₀ (F := F) (.scVector c s) 0 ()
      = SparseCore.onTile hcore0 hsub0 (fun c s => cc0_sc_kernel (coordsOf c s)
          usersM (Memref.isWhole_whole _) itemsM (Memref.isWhole_whole _) utabM (Memref.isWhole_whole _) itabM (Memref.isWhole_whole _) outM (Memref.isWhole_whole _)
          ulistM (Memref.isWhole_whole _) ilistM (Memref.isWhole_whole _) urowsM (Memref.isWhole_whole _) irowsM (Memref.isWhole_whole _) sumsM (Memref.isWhole_whole _)
          cc0_scratch5 cc0_scoped0 cc0_scoped1 cc0_scoped2) ⟨⟩ c s := rfl

theorem obl_pre {A B C D' E X Y Z Lv : sProp 𝕄} :
    iprop(Lv ∗ emp ∗ ((A ∗ B ∗ C ∗ D') ∗ E) ∗ X ∗ Y ∗ Z) ⊢ iprop(Lv ∗ (A ∗ B ∗ C ∗ D' ∗ E) ∗ X ∗ Y ∗ Z) := by
  iintro ⟨HL, -, ⟨⟨HA, HB, HC, HD⟩, HE⟩, HX, HY, HZ⟩
  isplitl [HL]; · iexact HL
  isplitl [HA HB HC HD HE]
  · isplitl [HA]; · iexact HA
    isplitl [HB]; · iexact HB
    isplitl [HC]; · iexact HC
    isplitl [HD]; · iexact HD
    iexact HE
  isplitl [HX]; · iexact HX
  isplitl [HY]; · iexact HY
  iexact HZ

theorem obl_post {thr : Thread nD τ} {A B C D' E X Y : sProp 𝕄} {O : CellTallies nD τ sig (HIx 1)} {W : Waits sig (HIx 1)} {q : Fin 1} :
    iprop((A ∗ B ∗ C ∗ D' ∗ E) ∗ X ∗ Y ∗ ∃ W', ⌜∀ p ∈ W', p ∈ W ∨ p.2 = none⌝ ∗ owes thr O W')
      ⊢ iprop(((A ∗ B ∗ C ∗ D') ∗ E) ∗ X ∗ Y ∗ ∃ W', ⌜∀ p ∈ W', p ∈ W ∨ p.2 = none ∨ p.2 = some q⌝ ∗ owes thr O W') := by
  iintro ⟨⟨HA, HB, HC, HD, HE⟩, HX, HY, %W', %hW', HO⟩
  isplitl [HA HB HC HD HE]
  · isplitr [HE]
    · isplitl [HA]; · iexact HA
      isplitl [HB]; · iexact HB
      isplitl [HC]; · iexact HC
      iexact HD
    iexact HE
  isplitl [HX]; · iexact HX
  isplitl [HY]; · iexact HY
  iexists W'; isplitr
  · ipureintro; exact fun p hp => (hW' p hp).imp_right Or.inl
  · iexact HO

set_option maxRecDepth 16384 in
/-- Every tile's task, from its pieces to its pieces with its block at the sums. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ piece m d (m (outLoc d)) (tileNo (coordsOf ⟨_, hci.1⟩ ⟨_, hci.2⟩)) ∗ _)
    ⊢ wp _ _ _ _ (fun _ => iprop(piece m d (sums m d) (tileNo (coordsOf ⟨_, hci.1⟩ ⟨_, hci.2⟩)) ∗ _))
  rw [piece_eq, piece_eq]
  exact (obl_pre.trans (tile_body d (coordsOf ⟨_, hci.1⟩ ⟨_, hci.2⟩) hF O W hO (share _) (usersIn m d) (itemsIn m d) (m (utabLoc d)) (m (itabLoc d)) (m (outLoc d))
    (fun x => (hpre d _).1) (fun x => (hpre d _).2))).trans (wp_mono frame _ _ fun _ => obl_post)

/-- A SparseCore deals its tiles' pieces out and collects them. -/
theorem vecSplit : (K (F := F)).VecSplit' (P m) 0 := by
  intro d c
  show (bigSep Finset.univ fun s : Fin ((K (F := F)).nSub 0) => piece m d (m (outLoc d)) (numberOf c s)) ⊢ |={Set.univ}=> iprop(
      (bigSep Finset.univ fun s : Fin ((K (F := F)).nSub 0) => piece m d (m (outLoc d)) (numberOf c s))
      ∗ ((bigSep Finset.univ fun s : Fin ((K (F := F)).nSub 0) => piece m d (sums m d) (numberOf c s))
          -∗ (bigSep Finset.univ fun s : Fin ((K (F := F)).nSub 0) => piece m d (sums m d) (numberOf c s))))
  iintro H; imodintro
  isplitl [H]; · iexact H
  iintro H; iexact H

/-! ## All tiles' pieces -/

/-- The arrays the call reads, whole, and the result, whole, are the tiles' pieces. -/
theorem pieces_eq (d : Dev nD) (f : Buf (Elt F) (outLoc d)) :
    (iprop(reads m d fullShare ∗ (outLoc d ↦{fullShare} f)) : sProp 𝕄)
      = bigSep Finset.univ fun c : Fin ((K (F := F)).nCore 0) => bigSep Finset.univ fun s : Fin ((K (F := F)).nSub 0) => piece m d f (numberOf c s) := by
  have eo : (outLoc d ↦{fullShare} f : sProp 𝕄) = bigSep Finset.univ fun w : Fin 32 => (outLoc d ↦[blockSet w]{fullShare} f : sProp 𝕄) := by
    have h := Windows.pointsTo_windows (Ix := HIx 1) (Name := ℕ) (U := UU) (Lvl := ℕ) (c := V d (cV (coordsOf ⟨0, by decide⟩ ⟨0, by decide⟩)) (jV (coordsOf ⟨0, by decide⟩ ⟨0, by decide⟩))) outM.view blockRect block_cover
      block_unique fullShare f
    rw [View.set_whole] at h
    exact h
  have es : ∀ (ℓ : Loc nD τ sig) (g : Buf (Elt F) ℓ), (ℓ ↦{fullShare} g : sProp 𝕄) = bigSep Finset.univ fun w : Fin 32 => (ℓ ↦{share w} g : sProp 𝕄) := fun ℓ g =>
    pointsTo_piecesOf (ℓ := ℓ) (o := 32) Finset.univ g tiles_pos fullShare
  unfold reads
  rw [eo, es, es, es, es]
  rw [← bigSep_sep', ← bigSep_sep', ← bigSep_sep', ← bigSep_sep', bigSep_tiles]
  rfl

theorem st0_eq (d : Dev nD) : (bigSep Finset.univ fun c : Fin ((K (F := F)).nCore 0) => (P m).st 0 d c)
    = iprop(reads m d fullShare ∗ (outLoc d ↦{fullShare} m (outLoc d))) := (pieces_eq m d (m (outLoc d))).symm
theorem dn0_eq (d : Dev nD) : (bigSep Finset.univ fun c : Fin ((K (F := F)).nCore 0) => (P m).dn 0 d c)
    = iprop(reads m d fullShare ∗ (outLoc d ↦{fullShare} sums m d)) := (pieces_eq m d (sums m d)).symm

/-! ## The launch element: the handshakes' rounds, nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev dref (b : Ref sig .tc) : DevRef τ sig := Proc.devRef .tc b

abbrev opUsers : HloOp τ sig (Elt F) := StableHlo.reshape main_arg0 main_v0 rfl shapeCasts_S16384_S32x4x128
abbrev opItems : HloOp τ sig (Elt F) := StableHlo.reshape main_arg1 main_v1 rfl shapeCasts_S16384_S32x4x128
abbrev opLoss : HloOp τ sig (Elt F) := StableHlo.nullary main_cst (constant S_ .f32 0x00000000#32)

/-- @main's ten arrays. -/
abbrev S10 : Finset (DevRef τ sig) :=
  {dref main_v0, dref main_v1, dref main_arg2, dref main_arg3, dref main_v2, dref main_arg0, dref main_arg1, dref main_arg4, dref main_arg5, dref main_cst}

/-- The ten arrays, one by one. -/
abbrev arrays (d : Dev nD) (W : Valuation τ sig (Elt F)) : sProp 𝕄 :=
  iprop((ublockLoc d ↦{fullShare} W (dref main_v0)) ∗ (iblockLoc d ↦{fullShare} W (dref main_v1)) ∗ (utabLoc d ↦{fullShare} W (dref main_arg2))
    ∗ (itabLoc d ↦{fullShare} W (dref main_arg3)) ∗ (outLoc d ↦{fullShare} W (dref main_v2)) ∗ (usersLoc d ↦{fullShare} W (dref main_arg0))
    ∗ (itemsLoc d ↦{fullShare} W (dref main_arg1)) ∗ (ubiasLoc d ↦{fullShare} W (dref main_arg4)) ∗ (ibiasLoc d ↦{fullShare} W (dref main_arg5))
    ∗ (lossLoc d ↦{fullShare} W (dref main_cst)))

omit [FloatOps F] in
theorem held_S10 (d : Dev nD) (W : Valuation τ sig (Elt F)) : (held (T d) S10 W : sProp 𝕄) = arrays d W := by
  unfold held S10
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch valuation, the one the call finds, the one it leaves, the one @main ends with. -/
def V0 (d : Dev nD) : Valuation τ sig (Elt F) := fun b => m (d, b)
def V1 (d : Dev nD) : Valuation τ sig (Elt F) := (opItems (F := F)).result ((opUsers (F := F)).result (V0 m d))
def V2 (d : Dev nD) : Valuation τ sig (Elt F) := Function.update (V1 m d) (dref main_v2) (sums m d)
def V3 (d : Dev nD) : Valuation τ sig (Elt F) := (opLoss (F := F)).result (V2 m d)

omit [FloatOps F] in
theorem unscoped_held (d : Dev nD) : (unscopedBufs d (fun b => m ((SparseCore.T d).loc b)) : sProp 𝕄) = held (T d) S10 (V0 m d) := by
  rw [held_S10]
  unfold unscopedBufs
  rw [show (Finset.univ.filter fun b : Ref sig .tc => ¬ b.isScoped)
      = {main_v0, main_v1, main_arg2, main_arg3, main_v2, main_arg0, main_arg1, main_arg4, main_arg5, main_cst} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

theorem V1_keeps (d : Dev nD) (b : DevRef τ sig) (h0 : b ∉ ({dref main_v0} : Finset (DevRef τ sig))) (h1 : b ∉ ({dref main_v1} : Finset (DevRef τ sig))) :
    V1 m d b = m (d, b) := by
  unfold V1
  rw [(opItems (F := F)).result_of_not_mem _ h1, (opUsers (F := F)).result_of_not_mem _ h0]
  rfl
theorem V1_users (d : Dev nD) : V1 m d (dref main_v0) = usersIn m d := by
  unfold V1
  rw [(opItems (F := F)).result_of_not_mem _ (show dref main_v0 ∉ ({dref main_v1} : Finset (DevRef τ sig)) by decide)]
  exact StableHlo.reshape_result _ _ _ _ _ _ _
theorem V1_items (d : Dev nD) : V1 m d (dref main_v1) = itemsIn m d := by
  refine (StableHlo.reshape_result _ _ _ _ _ _ _).trans ?_
  have e : (opUsers (F := F)).result (V0 m d) (dref main_arg1) = V0 m d (dref main_arg1) :=
    (opUsers (F := F)).result_of_not_mem _ (show dref main_arg1 ∉ ({dref main_v0} : Finset (DevRef τ sig)) by decide)
  rw [e]; rfl
theorem V2_keeps (d : Dev nD) (b : DevRef τ sig) (h : b ≠ dref main_v2) : V2 m d b = V1 m d b := Function.update_of_ne h _ _
theorem V2_sums (d : Dev nD) : V2 m d (dref main_v2) = sums m d := Function.update_self _ _ _
theorem V3_keeps (d : Dev nD) (b : DevRef τ sig) (h : b ∉ ({dref main_cst} : Finset (DevRef τ sig))) : V3 m d b = V2 m d b :=
  (opLoss (F := F)).result_of_not_mem _ h
theorem V3_loss (d : Dev nD) : V3 m d (dref main_cst) = (constant S_ .f32 0x00000000#32 : S_.Idx → F .f32) := StableHlo.nullary_result _ _ _ _

/-- The arrays as the call finds them and as it leaves them. -/
theorem arrays_V1 (d : Dev nD) (W : Valuation τ sig (Elt F)) (f : Buf (Elt F) (outLoc d)) (hv : W (dref main_v2) = f) (hk : ∀ b, b ≠ dref main_v2 → W b = V1 m d b) :
    (arrays d W : sProp 𝕄)
      = iprop((ublockLoc d ↦{fullShare} usersIn m d) ∗ (iblockLoc d ↦{fullShare} itemsIn m d) ∗ (utabLoc d ↦{fullShare} m (utabLoc d))
        ∗ (itabLoc d ↦{fullShare} m (itabLoc d)) ∗ (outLoc d ↦{fullShare} f) ∗ (usersLoc d ↦{fullShare} m (usersLoc d))
        ∗ (itemsLoc d ↦{fullShare} m (itemsLoc d)) ∗ (ubiasLoc d ↦{fullShare} m (ubiasLoc d)) ∗ (ibiasLoc d ↦{fullShare} m (ibiasLoc d))
        ∗ (lossLoc d ↦{fullShare} m (lossLoc d))) := by
  unfold arrays
  rw [hv, hk _ (show dref main_v0 ≠ dref main_v2 by decide), hk _ (show dref main_v1 ≠ dref main_v2 by decide), hk _ (show dref main_arg2 ≠ dref main_v2 by decide),
    hk _ (show dref main_arg3 ≠ dref main_v2 by decide), hk _ (show dref main_arg0 ≠ dref main_v2 by decide), hk _ (show dref main_arg1 ≠ dref main_v2 by decide),
    hk _ (show dref main_arg4 ≠ dref main_v2 by decide), hk _ (show dref main_arg5 ≠ dref main_v2 by decide), hk _ (show dref main_cst ≠ dref main_v2 by decide),
    V1_users, V1_items, V1_keeps m d (dref main_arg2) (by decide) (by decide), V1_keeps m d (dref main_arg3) (by decide) (by decide),
    V1_keeps m d (dref main_arg0) (by decide) (by decide), V1_keeps m d (dref main_arg1) (by decide) (by decide),
    V1_keeps m d (dref main_arg4) (by decide) (by decide), V1_keeps m d (dref main_arg5) (by decide) (by decide), V1_keeps m d (dref main_cst) (by decide) (by decide)]

/-- What @main leaves the claims: its arguments at their launch contents, its two results at their values. -/
abbrev FIN (d : Dev nD) : sProp 𝕄 :=
  iprop((usersLoc d ↦{fullShare} m (usersLoc d)) ∗ (itemsLoc d ↦{fullShare} m (itemsLoc d)) ∗ (utabLoc d ↦{fullShare} m (utabLoc d))
    ∗ (itabLoc d ↦{fullShare} m (itabLoc d)) ∗ (ubiasLoc d ↦{fullShare} m (ubiasLoc d)) ∗ (ibiasLoc d ↦{fullShare} m (ibiasLoc d))
    ∗ (outLoc d ↦{fullShare} sums m d) ∗ (lossLoc d ↦{fullShare} (constant S_ .f32 0x00000000#32 : S_.Idx → F .f32)))

theorem final_held (d : Dev nD) : (held (T d) S10 (V3 m d) : sProp 𝕄) ⊢ FIN m d := by
  rw [held_S10]
  unfold arrays
  rw [V3_loss, V3_keeps m d (dref main_v2) (by decide), V3_keeps m d (dref main_arg0) (by decide), V3_keeps m d (dref main_arg1) (by decide),
    V3_keeps m d (dref main_arg2) (by decide), V3_keeps m d (dref main_arg3) (by decide), V3_keeps m d (dref main_arg4) (by decide), V3_keeps m d (dref main_arg5) (by decide),
    V2_sums, V2_keeps m d (dref main_arg0) (by decide), V2_keeps m d (dref main_arg1) (by decide),
    V2_keeps m d (dref main_arg2) (by decide), V2_keeps m d (dref main_arg3) (by decide), V2_keeps m d (dref main_arg4) (by decide), V2_keeps m d (dref main_arg5) (by decide),
    V1_keeps m d (dref main_arg2) (by decide) (by decide), V1_keeps m d (dref main_arg3) (by decide) (by decide),
    V1_keeps m d (dref main_arg0) (by decide) (by decide), V1_keeps m d (dref main_arg1) (by decide) (by decide),
    V1_keeps m d (dref main_arg4) (by decide) (by decide), V1_keeps m d (dref main_arg5) (by decide) (by decide)]
  iintro ⟨-, -, H2, H3, Ho, H0, H1, H4, H5, Hc⟩
  isplitl [H0]; · iexact H0
  isplitl [H1]; · iexact H1
  isplitl [H2]; · iexact H2
  isplitl [H3]; · iexact H3
  isplitl [H4]; · iexact H4
  isplitl [H5]; · iexact H5
  isplitl [Ho]; · iexact Ho
  iexact Hc

theorem hUsers : (opUsers (F := F)).bufs ⊆ S10 := show ({dref main_arg0, dref main_v0} : Finset (DevRef τ sig)) ⊆ S10 by decide
theorem hItems : (opItems (F := F)).bufs ⊆ S10 := show ({dref main_arg1, dref main_v1} : Finset (DevRef τ sig)) ⊆ S10 by decide
theorem hLoss : (opLoss (F := F)).bufs ⊆ S10 := show ({dref main_cst} : Finset (DevRef τ sig)) ⊆ S10 by decide

/-- @main on device `d`'s TensorCore: the two reshapes, the call, the constant. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opUsers) (S := S10) hUsers (V := V0 m d)) $$ [Hb Hheld]
  · isplitl [Hb] <;> iassumption
  iintro ⟨Hb, Hheld⟩
  rw [wp_ret]; imodintro
  iapply (StableHlo.wp_hlo_within 𝒱 (SparseCore.T d) none Set.univ (op := opItems) (S := S10) hItems (V := (opUsers (F := F)).result (V0 m d))) $$ [Hb Hheld]
  · isplitl [Hb] <;> iassumption
  iintro ⟨Hb, Hheld⟩
  rw [wp_ret]; imodintro
  ihave Hh := (Entails.of_eq (show (held (T d) S10 ((opItems (F := F)).result ((opUsers (F := F)).result (V0 m d))) : sProp 𝕄) = _ from
    (held_S10 (F := F) d (V1 m d)).trans (arrays_V1 m d (V1 m d) (m (outLoc d)) (V1_keeps m d _ (by decide) (by decide)) fun _ _ => rfl))) $$ Hheld
  icases Hh with ⟨Hv0, Hv1, H2, H3, Ho, H0, H1, H4, H5, Hc⟩
  iapply ((K (F := F)).wp_run (D (F := F)) 𝒱 (EH := EH) (P := P m) κ d 0) $$ [Hst Hv0 Hv1 H2 H3 Ho H0 H1 H4 H5 Hc Hb Hts]
  isplitr; · iexact Hctx
  isplitl [Hst]; · iexact Hst
  isplitl [Hv0 Hv1 H2 H3 Ho]
  · rw [st0_eq]
    isplitr [Ho]
    · isplitl [Hv0]; · iexact Hv0
      isplitl [Hv1]; · iexact Hv1
      isplitl [H2]; · iexact H2
      iexact H3
    iexact Ho
  iintro ⟨Hst, Hdn⟩
  ihave Hdn := (Entails.of_eq (dn0_eq m d)) $$ Hdn
  icases Hdn with ⟨⟨Hv0, Hv1, H2, H3⟩, Ho⟩
  iapply (StableHlo.wp_hlo_within 𝒱 (SparseCore.T d) none Set.univ (op := opLoss) (S := S10) hLoss (V := V2 m d)) $$ [Hb Hv0 Hv1 H2 H3 Ho H0 H1 H4 H5 Hc]
  · isplitl [Hb]; · iexact Hb
    rw [held_S10, arrays_V1 m d (V2 m d) (sums m d) (V2_sums m d) fun b h => V2_keeps m d b h]
    isplitl [Hv0]; · iexact Hv0
    isplitl [Hv1]; · iexact Hv1
    isplitl [H2]; · iexact H2
    isplitl [H3]; · iexact H3
    isplitl [Ho]; · iexact Ho
    isplitl [H0]; · iexact H0
    isplitl [H1]; · iexact H1
    isplitl [H4]; · iexact H4
    isplitl [H5]; · iexact H5
    iexact Hc
  iintro ⟨Hb, Hheld⟩
  rw [wp_ret]; imodintro; imodintro
  isplitl [Hst]; · iexact Hst
  isplitr [Hb Hts]
  · iapply (show (held (T d) S10 ((opLoss (F := F)).result (V2 m d)) : sProp 𝕄) ⊢ FIN m d from final_held m d); iexact Hheld
  isplitl [Hb] <;> iassumption

/-! ## The program's run -/

/-- What the claims read of device `d`'s final memory: the results at their values, the arguments as they were. -/
def fq (d : Dev nD) (s' : Phys nD τ sig (Elt F)) : Prop :=
  (s'.mem.mem (outLoc d) = sums m d ∧ s'.mem.mem (lossLoc d) = (constant S_ .f32 0x00000000#32 : S_.Idx → F .f32))
    ∧ s'.mem.mem (usersLoc d) = m (usersLoc d) ∧ s'.mem.mem (itemsLoc d) = m (itemsLoc d) ∧ s'.mem.mem (utabLoc d) = m (utabLoc d)
    ∧ s'.mem.mem (itabLoc d) = m (itabLoc d) ∧ s'.mem.mem (ubiasLoc d) = m (ubiasLoc d) ∧ s'.mem.mem (ibiasLoc d) = m (ibiasLoc d)

omit [FloatOps F] in
/-- A buffer held is what memory holds. -/
theorem agrees (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, Ho, Hc⟩, HSI⟩
  ihave H := (agrees s' (usersLoc d) (m (usersLoc d))) $$ [H0 HSI]; · isplitl [H0] <;> iassumption
  icases H with ⟨%h0, HSI⟩
  ihave H := (agrees s' (itemsLoc d) (m (itemsLoc d))) $$ [H1 HSI]; · isplitl [H1] <;> iassumption
  icases H with ⟨%h1, HSI⟩
  ihave H := (agrees s' (utabLoc d) (m (utabLoc d))) $$ [H2 HSI]; · isplitl [H2] <;> iassumption
  icases H with ⟨%h2, HSI⟩
  ihave H := (agrees s' (itabLoc d) (m (itabLoc d))) $$ [H3 HSI]; · isplitl [H3] <;> iassumption
  icases H with ⟨%h3, HSI⟩
  ihave H := (agrees s' (ubiasLoc d) (m (ubiasLoc d))) $$ [H4 HSI]; · isplitl [H4] <;> iassumption
  icases H with ⟨%h4, HSI⟩
  ihave H := (agrees s' (ibiasLoc d) (m (ibiasLoc d))) $$ [H5 HSI]; · isplitl [H5] <;> iassumption
  icases H with ⟨%h5, HSI⟩
  ihave H := (agrees s' (outLoc d) (sums m d)) $$ [Ho HSI]; · isplitl [Ho] <;> iassumption
  icases H with ⟨%ho, HSI⟩
  ihave H := (agrees s' (lossLoc d) (constant S_ .f32 0x00000000#32 : S_.Idx → F .f32)) $$ [Hc HSI]; · isplitl [Hc] <;> iassumption
  icases H with ⟨%hc, -⟩
  ipureintro
  exact ⟨⟨ho, hc⟩, h0, h1, h2, h3, h4, h5⟩

/-- What a run ends with on every device, and its semaphores at zero. -/
def QC : PUnit × MemSt nD τ sig (Elt F) → Prop := fun r =>
  (∀ d : Dev nD, (r.2.mem (outLoc d) = sums m d ∧ r.2.mem (lossLoc d) = (constant S_ .f32 0x00000000#32 : S_.Idx → F .f32))
    ∧ r.2.mem (usersLoc d) = m (usersLoc d) ∧ r.2.mem (itemsLoc d) = m (itemsLoc d) ∧ r.2.mem (utabLoc d) = m (utabLoc d)
    ∧ r.2.mem (itabLoc d) = m (itabLoc d) ∧ r.2.mem (ubiasLoc d) = m (ubiasLoc d) ∧ r.2.mem (ibiasLoc d) = m (ibiasLoc d))
    ∧ r.2.sem = fun _ => 0

/-- THE RUN: every execution from indices in range terminates with the results at their values and the arguments as they
    were. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.KernelIdealValue.lean ====
/-
  What the kernel's sums are over the extended reals, in terms of @main's own arguments.
-/
module

public import proofs.«01_k».proof.Proof.KernelIdealLaunch
public import Idealize.ShloMosaic.PureOps.Ideal.Laws

@[expose] public section

noncomputable section

namespace Cert.Proof.KernelIdealRun

open Cert.KernelIdeal Cert.KernelIdeal.Gen
open Idealize.ShloMosaic Idealize.ShloMosaic.ValueIdx

variable {F : FTy → Type}

/-- The index a tile holds for pair `n` is `n`'s own. -/
theorem listOf_reshaped (a : S16384.Idx → BitVec 32) (n : Fin 16384) :
    listOf (shapeCast S32x4x128 a shapeCasts_S16384_S32x4x128) (ownerOf n) (pairAt (inTile n)) = a (ix1 n) := by
  refine shapeCast_apply a shapeCasts_S16384_S32x4x128 _ _ ?_
  rw [Shape.rowMajor_val_one, Shape.rowMajor_val_three]
  show n.val = (n.val / 512 * 4 + n.val % 512 / 128) * 128 + n.val % 512 % 128
  omega

/-- A left fold of sums over the extended reals is the sum. -/
theorem foldl_add (l : List (Fin 16)) (f : Fin 16 → EReal) (a : EReal) : l.foldl (fun s j => s + f j) a = a + (l.map f).sum := by
  induction l generalizing a with
  | nil => simp
  | cons j l ih => simp only [List.foldl_cons, List.map_cons, List.sum_cons, ih, add_assoc]

/-- Two rows' sum of products, over the extended reals. -/
theorem dot_eq (a b : Fin 16 → Ideal .f32) : dot (F := Ideal) a b = ∑ j : Fin 16, (a j : EReal) * b j := by
  have h : dot (F := Ideal) a b = (List.finRange 16).foldl (fun s j => s + (a j : EReal) * b j) (Ideal.ofBits .f32 0x00000000#32) := rfl
  rw [h, foldl_add, Ideal.ofBits_zero_f32, zero_add, ← List.ofFn_eq_map, List.sum_ofFn]

/-- One row of the 512 a tile gathers. -/
theorem rowsOf_at (t : S1000000x16.Idx → F .f32) (l : S4x128.Idx → BitVec 32) (r : Fin 512) (j : Fin 16) :
    rowsOf t l (ix2 r j) = t (ix2 (rowNo (l (pairAt r))) j) := rfl

/-- One of a tile's 512 sums. -/
theorem dotAt_at [FloatOps F] (a b : S512x16.Idx → F .f32) (r : Fin 512) :
    dotAt a b (ix1 r) = dot (fun j => a (ix2 r j)) (fun j => b (ix2 r j)) := rfl

/-- One sum of the result, in the tile that makes it. -/
theorem sumsOf_tile [FloatOps F] (u i : S32x4x128.Idx → BitVec 32) (tu ti : S1000000x16.Idx → F .f32) (n : Fin 16384) :
    sumsOf u i tu ti (ix1 n) = dotAt (rowsOf tu (listOf u (ownerOf n))) (rowsOf ti (listOf i (ownerOf n))) (ix1 (inTile n)) := rfl

/-- One sum, from what the tiles hold. -/
theorem sumsOf_held (u i : S32x4x128.Idx → BitVec 32) (tu ti : S1000000x16.Idx → Ideal .f32) (n : Fin 16384) :
    sumsOf (F := Ideal) u i tu ti (ix1 n)
      = ∑ j : Fin 16, (tu (ix2 (rowNo (listOf u (ownerOf n) (pairAt (inTile n)))) j) : EReal) * ti (ix2 (rowNo (listOf i (ownerOf n) (pairAt (inTile n)))) j) := by
  rw [sumsOf_tile, dotAt_at, dot_eq]
  refine Finset.sum_congr rfl fun (j : Fin 16) _ => ?_
  rw [rowsOf_at, rowsOf_at]

/-- The sums of products of two tables' rows at two index arrays, the arrays taken in the blocks the tiles read. -/
theorem sumsOf_at (u i : S16384.Idx → BitVec 32) (tu ti : S1000000x16.Idx → Ideal .f32) (n : Fin 16384) :
    sumsOf (F := Ideal) (shapeCast S32x4x128 u shapeCasts_S16384_S32x4x128) (shapeCast S32x4x128 i shapeCasts_S16384_S32x4x128) tu ti (ix1 n)
      = ∑ j : Fin 16, (tu (ix2 (rowNo (u (ix1 n))) j) : EReal) * ti (ix2 (rowNo (i (ix1 n))) j) := by
  refine (sumsOf_held _ _ tu ti n).trans (Finset.sum_congr rfl fun (j : Fin 16) _ => ?_)
  exact congrArg₂ (fun a b : BitVec 32 => (tu (ix2 (rowNo a) j) : EReal) * ti (ix2 (rowNo b) j)) (listOf_reshaped u n) (listOf_reshaped i n)

/-- THE KERNEL'S VALUE over the extended reals: the user's row against the item's. -/
theorem sums_at (m : (ℓ : Loc nD τ sig) → Buf (Elt Ideal) ℓ) (d : Dev nD) (u i : S16384.Idx → BitVec 32) (tu ti : S1000000x16.Idx → Ideal .f32)
    (hu : m (usersLoc d) = u) (hi : m (itemsLoc d) = i) (htu : m (utabLoc d) = tu) (hti : m (itabLoc d) = ti) (n : Fin 16384) :
    sums m d (ix1 n) = ∑ j : Fin 16, (tu (ix2 (rowNo (u (ix1 n))) j) : EReal) * ti (ix2 (rowNo (i (ix1 n))) j) := by
  subst hu hi htu hti
  exact sumsOf_at _ _ _ _ n

end Cert.Proof.KernelIdealRun

end
-- ==== Proof.Preconditions.lean ====
/-
  What the two preconditions say, element by element: the indices are in range, and the biases are zero.
-/
module

public import proofs.«01_k».proof.Proof.Gen.Pre_in_range
public import proofs.«01_k».proof.Proof.Gen.Pre_in_range_unbiased
public import Idealize.ShloMosaic.Lib.ReduceAll
public import Idealize.ShloMosaic.Lib.ValueIdxCore
public import Idealize.ShloMosaic.PureOps.Ideal.Laws

@[expose] public section

noncomputable section

namespace Cert.Proof.Preconditions

open Idealize.ShloMosaic Idealize.ShloMosaic.ValueIdx

variable {F : FTy → Type} [FloatOps F]

/-- `and` of two bits is one exactly when both are. -/
theorem both {a b : BitVec 1} (h : IntOp.andi a b = 1#1) : a = 1#1 ∧ b = 1#1 := by
  revert a b; decide

/-- A word at least zero and below 1000000, both read signed, is below 1000000 read unsigned. -/
theorem toNat_lt_of_bounds (v : BitVec 32) (h : IntOp.andi (IntOp.cmpi .sge v 0#32) (IntOp.cmpi .slt v 1000000#32) = 1#1) : v.toNat < 1000000 := by
  obtain ⟨h0, h1⟩ := both h
  have e : ∀ b : Bool, BitVec.ofBool b = 1#1 → b = true := fun b => by cases b <;> simp
  have h0 := e _ h0
  have h1 := e _ h1
  simp only [BitVec.sle_eq_decide, BitVec.slt_eq_decide, decide_eq_true_eq, BitVec.toInt_eq_toNat_cond, BitVec.toNat_ofNat, Nat.reducePow, Nat.reduceMod] at h0 h1
  omega

instance : Subsingleton Cert.Pre_in_range.S_.Idx := ⟨fun a b => funext fun x => x.elim0⟩
instance : Subsingleton Cert.Pre_in_range_unbiased.S_.Idx := ⟨fun a b => funext fun x => x.elim0⟩

/-- `in_range`: every index of both arrays names a row. -/
theorem in_range (users items : Cert.Pre_in_range.S16384.Idx → BitVec 32) (ue ie : FVec F Cert.Pre_in_range.S1000000x16 .f32)
    (ub ib : FVec F Cert.Pre_in_range.S1000000x1 .f32) (h : Cert.Pre_in_range.fn (F := F) users items ue ie ub ib = fun _ => 1#1)
    (j : Cert.Pre_in_range.S16384.Idx) : (users j).toNat < 1000000 ∧ (items j).toNat < 1000000 := by
  have e := congrFun h ix0
  obtain ⟨hu, hi⟩ := both e
  exact ⟨toNat_lt_of_bounds _ (Host.reduce_andi_all _ _ _ _ _ hu j), toNat_lt_of_bounds _ (Host.reduce_andi_all _ _ _ _ _ hi j)⟩

/-- `in_range_unbiased` says the same of the indices. -/
theorem in_range_of_unbiased (users items : Cert.Pre_in_range_unbiased.S16384.Idx → BitVec 32) (ue ie : FVec F Cert.Pre_in_range_unbiased.S1000000x16 .f32)
    (ub ib : FVec F Cert.Pre_in_range_unbiased.S1000000x1 .f32) (h : Cert.Pre_in_range_unbiased.fn (F := F) users items ue ie ub ib = fun _ => 1#1)
    (j : Cert.Pre_in_range_unbiased.S16384.Idx) : (users j).toNat < 1000000 ∧ (items j).toNat < 1000000 := by
  have e := congrFun h ix0
  obtain ⟨hu, hi⟩ := both (both (both e).1).1
  exact ⟨toNat_lt_of_bounds _ (Host.reduce_andi_all _ _ _ _ _ hu j), toNat_lt_of_bounds _ (Host.reduce_andi_all _ _ _ _ _ hi j)⟩

/-- An ideal value that compares equal to zero is zero. -/
theorem eq_zero_of_oeq (x : EReal) (h : FloatOps.cmpf (F := Ideal) (φ := .f32) .oeq x (Ideal.ofBits .f32 0x00000000#32) = 1#1) : x = 0 := by
  have e : ∀ b : Bool, BitVec.ofBool b = 1#1 → b = true := fun b => by cases b <;> simp
  have h := of_decide_eq_true (e _ h)
  exact h.trans Ideal.ofBits_zero_f32

/-- `in_range_unbiased` says of the biases that they are zero. -/
theorem unbiased (users items : Cert.Pre_in_range_unbiased.S16384.Idx → BitVec 32) (ue ie : FVec Ideal Cert.Pre_in_range_unbiased.S1000000x16 .f32)
    (ub ib : FVec Ideal Cert.Pre_in_range_unbiased.S1000000x1 .f32) (h : Cert.Pre_in_range_unbiased.fn (F := Ideal) users items ue ie ub ib = fun _ => 1#1)
    (j : Cert.Pre_in_range_unbiased.S1000000x1.Idx) : ub j = (0 : EReal) ∧ ib j = (0 : EReal) := by
  have e := congrFun h ix0
  obtain ⟨hu, hi⟩ := both e
  exact ⟨eq_zero_of_oeq _ (Host.reduce_andi_all _ _ _ _ _ (both hu).2 j), eq_zero_of_oeq _ (Host.reduce_andi_all _ _ _ _ _ hi j)⟩

end Cert.Proof.Preconditions

end
-- ==== Proof.Reference.lean ====
/-
  What the reference computes from indices in range and zero biases: at each pair the sum over the sixteen columns of
  the products of the two table rows its indices name.
-/
module

public import proofs.«01_k».proof.Proof.KernelIdealPieces
public import proofs.«01_k».proof.Proof.Gen.ReferenceIdeal.Run
public import Idealize.ShloMosaic.Lib.ReduceAll
public import Idealize.ShloMosaic.Lib.Routing.Ops
public import Idealize.ShloMosaic.Lib.IdealHost
public import Idealize.ShloMosaic.PureOps.Ideal.Laws

@[expose] public section

noncomputable section

namespace Cert.Proof.Reference

open Cert.ReferenceIdeal Cert.ReferenceIdeal.Gen
open Idealize.ShloMosaic Idealize.ShloMosaic.ValueIdx Idealize.ShloMosaic.TcCoe
open Cert.Proof.KernelIdealRun (rowNo)

/-! ## A take, in the pieces the reference spells it with -/

/-- The indices with a negative one counted from the table's end. -/
def wrapped (x : IVec S16384 32) : IVec S16384 32 :=
  select (cmpi .slt x (broadcastInDim S16384 ![] bcast_S_S16384 (constantI S_ 32 0#32)))
    (addi x (broadcastInDim S16384 ![] bcast_S_S16384 (constantI S_ 32 1000000#32))) x
/-- Those as a column. -/
def column (x : IVec S16384 32) : IVec S16384x1 32 := broadcastInDim S16384x1 ![0] bcast_S16384_S16384x1_0 (wrapped x)
/-- Which of them name a row. -/
def valid (x : IVec S16384 32) : IVec S16384 1 :=
  Host.reduce IntOp.andi (andi (cmpi .sge (column x) (broadcastInDim S16384x1 ![] bcast_S_S16384x1 (constantI S_ 32 0#32)))
    (cmpi .sle (column x) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

variable {F : FTy → Type} [FloatOps F]

/-- The rows of an embedding the indices name, and a bias table's. -/
def rows (t : FVec F S1000000x16 .f32) (x : IVec S16384 32) : FVec F S16384x16 .f32 :=
  select (broadcastInDim S16384x16 ![0] bcast_S16384_S16384x16_0 (valid x)) (Host.gather gather_S1000000x16_S16384x1_S16384x16_1_0_n_n_0_1_116 t (column x))
    (broadcastInDim S16384x16 ![] bcast_S_S16384x16 (constant S_ .f32 0x7FC00000#32))
def biases (t : FVec F S1000000x1 .f32) (x : IVec S16384 32) : FVec F S16384x1 .f32 :=
  select (broadcastInDim S16384x1 ![0] bcast_S16384_S16384x1_0 (valid x)) (Host.gather gather_S1000000x1_S16384x1_S16384x1_1_0_n_n_0_1_11 t (column x))
    (broadcastInDim S16384x1 ![] bcast_S_S16384x1 (constant S_ .f32 0x7FC00000#32))

/-- The reference's first result, from its arguments. -/
def result (u i : IVec S16384 32) (tu ti : FVec F S1000000x16 .f32) (bu bi : FVec F S1000000x1 .f32) : FVec F S16384 .f32 :=
  shapeCast _ (addf (addf (broadcastInDim S16384x1 ![0] bcast_S16384_S16384x1_0
    (Host.reduceAdd (mulf (rows tu u) (rows ti i)) (constant S_ .f32 0x00000000#32) reducesTo_S16384x16_S16384_d1 h_S_)) (biases bu u)) (biases bi i))
    shapeCasts_S16384x1_S16384

theorem res_eq (m : (ℓ : Loc nD τ sig) → Buf (Elt F) ℓ) (c : Dev nD) :
    Value.res_main_v9 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v9; rfl

/-! ## Operations at one element -/

section
variable {s t : Shape} {α : Type}

/-- A broadcast of an array that is `a` everywhere is `a` everywhere. -/
theorem bcast_all (dims : Fin s.rank → Fin t.rank) (h : s.BroadcastsInDim t dims) (v : s.Idx → α) (a : α) (hv : ∀ j, v j = a) (j : t.Idx) :
    broadcastInDim t dims h v j = a := hv _
/-- A selection whose bit is set takes its first operand. -/
theorem select_set (c : IVec s 1) (a b : s.Idx → α) (j : s.Idx) (h : c j = 1#1) : select c a b j = a j := by
  show Scalar.select (c j) (a j) (b j) = a j
  rw [h]; exact select_one _ _
/-- Sums and products over the extended reals. -/
theorem addf_at (a b : FVec Ideal s .f32) (j : s.Idx) : addf a b j = (a j + b j : EReal) := rfl
theorem mulf_at (a b : FVec Ideal s .f32) (j : s.Idx) : mulf a b j = (a j * b j : EReal) := rfl

end

/-! ## Indices in range: nothing wraps, everything is valid -/

section
variable (x : IVec S16384 32) (hx : ∀ j, (x j).toNat < 1000000)
include hx

theorem wrapped_eq : wrapped x = x := by
  funext j
  have h : IntOp.cmpi .slt (x j) 0#32 = 0#1 := by
    have := hx j
    show BitVec.ofBool ((x j).slt 0#32) = 0#1
    rw [BitVec.slt_eq_decide, decide_eq_false]; · rfl
    simp only [BitVec.toInt_eq_toNat_cond, BitVec.toNat_ofNat, Nat.reducePow, Nat.reduceMod]
    omega
  show Scalar.select (IntOp.cmpi .slt (x j) 0#32) _ (x j) = x j
  rw [h]; exact select_zero _ _

theorem column_at (c : Fin 16384) : column x (ix2 c (0 : Fin 1)) = x (ix1 c) := by
  unfold column
  rw [wrapped_eq x hx]
  exact Routing.bcCol bcast_S16384_S16384x1_0 x c

theorem valid_at (j : S16384.Idx) : valid x j = 1#1 := by
  refine Host.reduce_andi_one _ _ _ _ _ rfl fun y => ?_
  obtain ⟨c, rfl⟩ : ∃ c : Fin 16384, y = ix2 c (0 : Fin 1) :=
    ⟨y 0, (eq_ix2 y).trans (congrArg (ix2 (y 0)) (Fin.ext (by have := idx2_lt1 y; show (y 1).val = 0; omega)))⟩
  show IntOp.andi (IntOp.cmpi .sge (column x (ix2 c (0 : Fin 1))) 0#32) (IntOp.cmpi .sle (column x (ix2 c (0 : Fin 1))) 999999#32) = 1#1
  rw [column_at x hx]
  have := hx (ix1 c)
  have h0 : IntOp.cmpi .sge (x (ix1 c)) 0#32 = 1#1 := (StableHlo.Predicate.sge_iff_toNat (by omega) (by decide)).mpr (by simp)
  have h1 : IntOp.cmpi .sle (x (ix1 c)) 999999#32 = 1#1 := (StableHlo.Predicate.sle_iff_toNat (by omega) (by decide)).mpr (by simp; omega)
  exact (congrArg₂ IntOp.andi h0 h1).trans (by decide)

theorem row_named (c : Fin 16384) : column x (ix2 c (0 : Fin 1)) = BitVec.ofNat 32 (rowNo (x (ix1 c))).val := by
  rw [column_at x hx]
  show _ = BitVec.ofNat 32 ((x (ix1 c)).toNat % 1000000)
  rw [Nat.mod_eq_of_lt (hx _), BitVec.ofNat_toNat, BitVec.setWidth_eq]

/-- A take reads the row its index names. -/
theorem rows_at (t : FVec F S1000000x16 .f32) (c : Fin 16384) (y : Fin 16) : rows t x (ix2 c y) = t (ix2 (rowNo (x (ix1 c))) y) := by
  unfold rows
  exact (select_set _ _ _ _ (bcast_all _ _ _ _ (valid_at x hx) _)).trans (Routing.gather_row _ rfl rfl rfl rfl rfl t (column x) c y _ (row_named x hx c) (by decide))

theorem biases_at (t : FVec F S1000000x1 .f32) (c : Fin 16384) : biases t x (ix2 c (0 : Fin 1)) = t (ix2 (rowNo (x (ix1 c))) (0 : Fin 1)) := by
  unfold biases
  exact (select_set _ _ _ _ (bcast_all _ _ _ _ (valid_at x hx) _)).trans (Routing.gather_row _ rfl rfl rfl rfl rfl t (column x) c 0 _ (row_named x hx c) (by decide))

end

/-! ## The value -/

theorem reduces : S16384x16.Reduces [1] S16384 := by decide

/-- THE REFERENCE'S VALUE over the extended reals. -/
theorem result_at (u i : IVec S16384 32) (hu : ∀ j, (u j).toNat < 1000000) (hi : ∀ j, (i j).toNat < 1000000) (tu ti : FVec Ideal S1000000x16 .f32)
    (bu bi : FVec Ideal S1000000x1 .f32) (hbu : ∀ j, bu j = (0 : EReal)) (hbi : ∀ j, bi j = (0 : EReal)) (c : Fin 16384) :
    result u i tu ti bu bi (ix1 c) = ∑ j : Fin 16, (tu (ix2 (rowNo (u (ix1 c))) j) : EReal) * ti (ix2 (rowNo (i (ix1 c))) j) := by
  unfold result
  rw [Routing.cast21 _ shapeCasts_S16384x1_S16384 c (0 : Fin 1) c (by simp)]
  rw [addf_at, addf_at, biases_at u hu, biases_at i hi, hbu, hbi, add_zero, add_zero]
  refine (Routing.bcCol bcast_S16384_S16384x1_0 _ c).trans ?_
  refine (hostReduceAdd_apply _ _ _ _ _).trans ?_
  rw [show (constant S_ .f32 0x00000000#32 : FVec Ideal S_ .f32) (Shape.Idx.first h_S_) = Ideal.ofBits .f32 0x00000000#32 from rfl,
    Ideal.hostReduceAdd_single reducesTo_S16384x16_S16384_d1 reduces, Ideal.ofBits_zero_f32, zero_add]
  refine Finset.sum_congr rfl fun (j : Fin 16) _ => ?_
  have e : reduces.lift (ix1 c) j = (ix2 c j : S16384x16.Idx) := by
    funext a; match a with
    | ⟨0, _⟩ => rfl
    | ⟨1, _⟩ => rfl
  rw [e]
  rw [mulf_at, rows_at u hu, rows_at i hi]

end Cert.Proof.Reference

end
-- ==== Proof.lean ====
/-
  The proof of `Cert.Claim`: the frames of the kernel's three forms and of the reference, and that the ideal kernel and
  the reference end with equal results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_unbiased
public import proofs.«01_k».proof.Proof.KernelLaunch
public import proofs.«01_k».proof.Proof.KernelIdealValue
public import proofs.«01_k».proof.Proof.Preconditions
public import proofs.«01_k».proof.Proof.Reference
public import Idealize.ShloMosaic.Adequacy
public import Idealize.ShloMosaic.Init

@[expose] public section

noncomputable section

namespace Cert.Proof

open Idealize.ShloMosaic Idealize.ShloMosaic.ValueIdx Idealize.SL.Sem

/-! ## The preconditions, as the runs take them -/

theorem kernel_ok {m : (ℓ : Loc Cert.Kernel.nD Cert.Kernel.τ Cert.Kernel.sig) → Buf (Elt Bits) ℓ} (h : Cert.Pre_Kernel m) : KernelRun.PreOK m :=
  fun d j => Preconditions.in_range _ _ _ _ _ _ (h d) j
theorem ideal_ok {m : (ℓ : Loc Cert.KernelIdeal.nD Cert.KernelIdeal.τ Cert.KernelIdeal.sig) → Buf (Elt Ideal) ℓ} (h : Cert.Pre_KernelIdeal m) : KernelIdealRun.PreOK m :=
  fun d j => Preconditions.in_range _ _ _ _ _ _ (h d) j
theorem ideal_unbiased_ok {m : (ℓ : Loc Cert.KernelIdeal.nD Cert.KernelIdeal.τ Cert.KernelIdeal.sig) → Buf (Elt Ideal) ℓ}
    (h : Cert.Pre_KernelIdeal_in_range_unbiased m) : KernelIdealRun.PreOK m :=
  fun d j => Preconditions.in_range_of_unbiased _ _ _ _ _ _ (h d) j

/-! ## The frames -/

/-- The kernel's frame. -/
theorem frame_kernel : Cert.quiescent_Kernel := fun m g hpre =>
  (θ_run Cert.Kernel.defs _ _).mono (fun _ h => ⟨fun c => (h.1 c).2, h.2⟩) (KernelRun.run_main (F := Bits) m g (kernel_ok hpre))
/-- The ideal kernel's frame. -/
theorem frame_ideal : Cert.quiescent_KernelIdeal := fun m g hpre =>
  (θ_run Cert.KernelIdeal.defs _ _).mono (fun _ h => ⟨fun c => (h.1 c).2, h.2⟩) (KernelIdealRun.run_main (F := Ideal) m g (ideal_ok hpre))
/-- The same under the value claim's precondition. -/
theorem frame_ideal_unbiased : Cert.quiescent_KernelIdeal_pre_in_range_unbiased := fun m g hpre =>
  (θ_run Cert.KernelIdeal.defs _ _).mono (fun _ h => ⟨fun c => (h.1 c).2, h.2⟩) (KernelIdealRun.run_main (F := Ideal) m g (ideal_unbiased_ok hpre))
/-- The reference's frame. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)
/-- The same under the value claim's precondition. -/
theorem frame_reference_unbiased : Cert.quiescent_ReferenceIdeal_pre_in_range_unbiased := fun m g _ => frame_reference m g trivial

/-! ## The value claim -/

/-- From indices in range and zero biases the reference's first result is the kernel's. -/
theorem value (m : (ℓ : Loc Cert.KernelIdeal.nD Cert.KernelIdeal.τ Cert.KernelIdeal.sig) → Buf (Elt Ideal) ℓ) (d : Dev Cert.KernelIdeal.nD)
    (h : Cert.Pre_KernelIdeal_in_range_unbiased m) :
    Reference.result (m (KernelIdealRun.usersLoc d)) (m (KernelIdealRun.itemsLoc d)) (m (KernelIdealRun.utabLoc d)) (m (KernelIdealRun.itabLoc d))
      (m (KernelIdealRun.ubiasLoc d)) (m (KernelIdealRun.ibiasLoc d)) = KernelIdealRun.sums m d := by
  funext n
  obtain ⟨c, rfl⟩ : ∃ c : Fin 16384, n = ix1 c := ⟨n 0, eq_ix1 n⟩
  exact (Reference.result_at _ _ (fun j => (ideal_unbiased_ok h d j).1) (fun j => (ideal_unbiased_ok h d j).2) _ _ _ _
    (fun j => (Preconditions.unbiased _ _ _ _ _ _ (h d) j).1) (fun j => (Preconditions.unbiased _ _ _ _ _ _ (h d) j).2) c).trans
    (KernelIdealRun.sums_at m d _ _ _ _ rfl rfl rfl rfl c).symm

/-- The ideal kernel and the reference end with equal results. -/
theorem algebraic : Cert.algebraic_KernelIdeal_ReferenceIdeal_pre_in_range_unbiased := by
  intro m g m' g' hpre hagree
  refine ⟨fun d => KernelIdealRun.sums m d, fun _ => (constant Cert.KernelIdeal.S_ .f32 0x00000000#32 : Cert.KernelIdeal.S_.Idx → Ideal .f32), ?_, ?_⟩
  · exact (θ_run Cert.KernelIdeal.defs _ _).mono (fun _ h c => ⟨(h.1 c).1.1, (h.1 c).1.2, (h.1 c).2⟩)
      (KernelIdealRun.run_main (F := Ideal) m g (ideal_unbiased_ok hpre))
  · refine (θ_run Cert.ReferenceIdeal.defs _ _).mono (fun _ h c => ⟨(h c).1.trans ?_, (h c).2⟩) (Cert.ReferenceIdeal.Value.run (F := Ideal) m' g')
    obtain ⟨e0, e1, e2, e3, e4, e5⟩ := hagree c
    rw [Reference.res_eq, e0, e1, e2, e3, e4, e5]
    exact value m c hpre

/-- THE CERTIFICATE. -/
theorem claim : Cert.Claim := ⟨Cert.Kernel.Gen.facts, Cert.KernelIdeal.Gen.facts, Cert.ReferenceIdeal.Gen.facts, Cert.Pre_in_range.Gen.facts, Cert.Pre_in_range_unbiased.Gen.facts,
  frame_kernel, frame_ideal, frame_ideal_unbiased, frame_reference, frame_reference_unbiased, trivial, algebraic⟩

end Cert.Proof

end
